-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S64x128x128x64 : S_.BroadcastsInDim S64x128x128x64 (![] : Fin 0 → Fin S64x128x128x64.rank)

variable [Facts]

def fn {F : FTy → Type} [FloatOps F] (main_arg0 : FVec F S2x128x512 .f32) (main_arg1 : FVec F S512x256 .f32) (main_arg2 : FVec F S64x128x128x64 .f32) (main_arg3 : FVec F S64x128x128x64 .f32) (main_arg4 : FVec F S256x512 .f32) : IVec S2x128x512 1 × IVec S512x256 1 × IVec S64x128x128x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S64x128x128x64 .f32 := Host.absf main_arg2
  let main_cst_1 : FVec F S_ .f32 := constant S_ .f32 0x7F800000#32
  let main_v7 : FVec F S64x128x128x64 .f32 := broadcastInDim S64x128x128x64 ![] bcast_S_S64x128x128x64 main_cst_1
  let main_v8 : IVec S64x128x128x64 1 := cmpf .olt main_v6 main_v7
  (main_v2, main_v5, main_v8)
-- ==== Pre_finite_ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S_ : Shape := ⟨0, ![]⟩

class Facts : Prop where
  bcast_S_S64x128x512 : S_.BroadcastsInDim S64x128x512 (![] : Fin 0 → Fin S64x128x512.rank)
  bcast_S_S512x8192 : S_.BroadcastsInDim S512x8192 (![] : Fin 0 → Fin S512x8192.rank)
  bcast_S_S64x128x128x64 : S_.BroadcastsInDim S64x128x128x64 (![] : Fin 0 → Fin S64x128x128x64.rank)

variable [Facts]

def fn {F : FTy → Type} [FloatOps F] (main_arg0 : FVec F S64x128x512 .f32) (main_arg1 : FVec F S512x8192 .f32) (main_arg2 : FVec F S64x128x128x64 .f32) (main_arg3 : FVec F S64x128x128x64 .f32) (main_arg4 : FVec F S8192x512 .f32) : IVec S64x128x512 1 × IVec S512x8192 1 × IVec S64x128x128x64 1 :=
  let main_v0 : FVec F S64x128x512 .f32 := Host.absf main_arg0
  let main_cst : FVec F S_ .f32 := constant S_ .f32 0x7F800000#32
  let main_v1 : FVec F S64x128x512 .f32 := broadcastInDim S64x128x512 ![] bcast_S_S64x128x512 main_cst
  let main_v2 : IVec S64x128x512 1 := cmpf .olt main_v0 main_v1
  let main_v3 : FVec F S512x8192 .f32 := Host.absf main_arg1
  let main_cst_0 : FVec F S_ .f32 := constant S_ .f32 0x7F800000#32
  let main_v4 : FVec F S512x8192 .f32 := broadcastInDim S512x8192 ![] bcast_S_S512x8192 main_cst_0
  let main_v5 : IVec S512x8192 1 := cmpf .olt main_v3 main_v4
  let main_v6 : FVec F S64x128x128x64 .f32 := Host.absf main_arg2
  let main_cst_1 : FVec F S_ .f32 := constant S_ .f32 0x7F800000#32
  let main_v7 : FVec F S64x128x128x64 .f32 := broadcastInDim S64x128x128x64 ![] bcast_S_S64x128x128x64 main_cst_1
  let main_v8 : IVec S64x128x128x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S32x512x256 : Shape := ⟨3, ![32, 512, 256]⟩
abbrev S32x256x512 : Shape := ⟨3, ![32, 256, 512]⟩
abbrev S8x2x128x64 : Shape := ⟨4, ![8, 2, 128, 64]⟩
abbrev S256x256 : Shape := ⟨2, ![256, 256]⟩
abbrev S32 : Shape := ⟨1, ![32]⟩
abbrev S2x4 : Shape := ⟨2, ![2, 4]⟩
abbrev S_ : Shape := ⟨0, ![]⟩
abbrev S1x512x256 : Shape := ⟨3, ![1, 512, 256]⟩
abbrev S1x256x512 : Shape := ⟨3, ![1, 256, 512]⟩
abbrev S1x1 : Shape := ⟨2, ![1, 1]⟩
abbrev S1x2x128x64 : Shape := ⟨4, ![1, 2, 128, 64]⟩
abbrev S2x128x64 : Shape := ⟨3, ![2, 128, 64]⟩
abbrev S2x128x1x64 : Shape := ⟨4, ![2, 128, 1, 64]⟩
abbrev S1 : Shape := ⟨1, ![1]⟩
abbrev S256x64 : Shape := ⟨2, ![256, 64]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S64x128x128x64, .f32⟩
  | .hbm, ⟨3, _⟩ => ⟨S64x128x128x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S32x512x256, .bf16⟩
  | .local _ .vmem, ⟨5, _⟩ => ⟨S32x256x512, .bf16⟩
  | .local _ .vmem, ⟨6, _⟩ => ⟨S8x2x128x64, .f32⟩
  | .local _ .vmem, ⟨7, _⟩ => ⟨S8x2x128x64, .f32⟩
  | .local _ .vmem, ⟨8, _⟩ => ⟨S256x256, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 148 → Bool
  | ⟨i, _⟩ => dmaSemScopedAt i

abbrev sig : RefSig :=
  (ofTc nBuf bufTy 1 148 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_6 : BitVec 32 := 1#32
  let v10 : BitVec 32 := Scalar.muli v7 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8 : BitVec 32 := 1#32
  let v12 : BitVec 32 := Scalar.muli v4 c1_i32_8
  let v13 : BitVec 32 := Scalar.addi c0_i32_9 v12
  v13.toNat
def k0_off1 : Fin 2 → Nat :=
  let c0_i32_41 : BitVec 32 := 0#32
  let c2_i32_42 : BitVec 32 := 2#32
  let v86 : BitVec 32 := Scalar.remsi c0_i32_41 c2_i32_42
  let c0_i32_76 : BitVec 32 := 0#32
  ![v86.toNat, 0]
def k0_off2 (c0_i32_48 : BitVec 32) : Fin 4 → Nat :=
  let c0_i32_41 : BitVec 32 := 0#32
  let c2_i32_42 : BitVec 32 := 2#32
  let v86 : BitVec 32 := Scalar.remsi c0_i32_41 c2_i32_42
  let c4_i32_47 : BitVec 32 := 4#32
  let v92 : BitVec 32 := Scalar.muli v86 c4_i32_47
  let v93 : BitVec 32 := Scalar.addi v92 c0_i32_48
  let c0_i32_77 : BitVec 32 := 0#32
  let c0_i32_78 : BitVec 32 := 0#32
  let c0_i32_79 : BitVec 32 := 0#32
  ![v93.toNat, 0, 0, 0]
def k0_off3 (d0 : Dev nD) (c0_i32_46 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.muli v2 c2_i32
  let c0_i32_80 : BitVec 32 := 0#32
  let c0_i32_43 : BitVec 32 := 0#32
  let v87 : BitVec 32 := Scalar.subi v2 c0_i32_43
  let c32_i32_44 : BitVec 32 := 32#32
  let v88 : BitVec 32 := Scalar.addi v87 c32_i32_44
  let c32_i32_45 : BitVec 32 := 32#32
  let v89 : BitVec 32 := Scalar.remsi v88 c32_i32_45
  let c4_i32 : BitVec 32 := 4#32
  let v90 : BitVec 32 := Scalar.muli v89 c4_i32
  let v91 : BitVec 32 := Scalar.addi v90 c0_i32_46
  let c0_i32_81 : BitVec 32 := 0#32
  ![v8.toNat, 0, v91.toNat, 0]
def k0_off4 : Fin 2 → Nat :=
  let c0_i32_41 : BitVec 32 := 0#32
  let c2_i32_42 : BitVec 32 := 2#32
  let v86 : BitVec 32 := Scalar.remsi c0_i32_41 c2_i32_42
  let c1_i32_88 : BitVec 32 := 1#32
  ![v86.toNat, 1]
def k0_off5 : Fin 2 → Nat :=
  let c0_i32_41 : BitVec 32 := 0#32
  let c2_i32_42 : BitVec 32 := 2#32
  let v86 : BitVec 32 := Scalar.remsi c0_i32_41 c2_i32_42
  let c2_i32_100 : BitVec 32 := 2#32
  ![v86.toNat, 2]
def k0_off6 : Fin 2 → Nat :=
  let c0_i32_41 : BitVec 32 := 0#32
  let c2_i32_42 : BitVec 32 := 2#32
  let v86 : BitVec 32 := Scalar.remsi c0_i32_41 c2_i32_42
  let c3_i32_112 : BitVec 32 := 3#32
  ![v86.toNat, 3]
@[reducible] def k0_t1_loop : Scf.Loop 32 :=
  let c0_i32_124 : BitVec 32 := 0#32
  let c32_i32_125 : BitVec 32 := 32#32
  let v170 : BitVec 32 := Scalar.addi c0_i32_124 c32_i32_125
  let c1_i32_126 : BitVec 32 := 1#32
  ⟨c0_i32_124, v170, c1_i32_126⟩
def k0_cond1 (k0_t1 : Fin k0_t1_loop.trips) : BitVec 1 :=
  let c0_i32_124 : BitVec 32 := 0#32
  let c1_i32_126 : BitVec 32 := 1#32
  let arg17 : BitVec 32 := Scf.iv c0_i32_124 c1_i32_126 k0_t1
  let c31_i32 : BitVec 32 := 31#32
  let v172 : BitVec 1 := Scalar.cmpi .slt arg17 c31_i32
  let v173 : BitVec 32 := Scalar.extui v172
  let c0_i32_129 : BitVec 32 := 0#32
  let v174 : BitVec 1 := Scalar.cmpi .ne v173 c0_i32_129
  v174

def k0_off7 (k0_t1 : Fin k0_t1_loop.trips) : Fin 1 → Nat :=
  let c0_i32_124 : BitVec 32 := 0#32
  let c1_i32_126 : BitVec 32 := 1#32
  let arg17 : BitVec 32 := Scf.iv c0_i32_124 c1_i32_126 k0_t1
  ![arg17.toNat]
def k0_off8 (k0_t1 : Fin k0_t1_loop.trips) : Fin 1 → Nat :=
  let c0_i32_124 : BitVec 32 := 0#32
  let c1_i32_126 : BitVec 32 := 1#32
  let arg17 : BitVec 32 := Scf.iv c0_i32_124 c1_i32_126 k0_t1
  let c1_i32_291 : BitVec 32 := 1#32
  let v398 : BitVec 32 := Scalar.addi arg17 c1_i32_291
  ![v398.toNat]
def k0_off9 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c1_i32_290 : BitVec 32 := 1#32
  let v397 : BitVec 32 := Scalar.addi arg17 c1_i32_290
  let c0_i32_296 : BitVec 32 := 0#32
  let c0_i32_297 : BitVec 32 := 0#32
  ![v397.toNat, 0, 0]
def k0_off10 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c0_i32_298 : BitVec 32 := 0#32
  let c0_i32_299 : BitVec 32 := 0#32
  ![arg17.toNat, 0, 0]
def k0_dev3 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_294 : BitVec 32 := 1#32
  let v401 : BitVec 32 := Scalar.muli v4 c1_i32_294
  let v402 : BitVec 32 := Scalar.addi c0_i32_295 v401
  v402.toNat
def k0_off11 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c1_i32_292 : BitVec 32 := 1#32
  let v399 : BitVec 32 := Scalar.addi arg17 c1_i32_292
  let c0_i32_302 : BitVec 32 := 0#32
  let c0_i32_303 : BitVec 32 := 0#32
  ![v399.toNat, 0, 0]
def k0_off12 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c0_i32_304 : BitVec 32 := 0#32
  let c0_i32_305 : BitVec 32 := 0#32
  ![arg17.toNat, 0, 0]
def k0_dev4 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_300 : BitVec 32 := 1#32
  let v411 : BitVec 32 := Scalar.muli v4 c1_i32_300
  let v412 : BitVec 32 := Scalar.addi c0_i32_301 v411
  v412.toNat
def k0_off13 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c1_i32_306 : BitVec 32 := 1#32
  let v421 : BitVec 32 := Scalar.addi arg17 c1_i32_306
  let c2_i32_307 : BitVec 32 := 2#32
  let v422 : BitVec 32 := Scalar.remsi v421 c2_i32_307
  let c0_i32_342 : BitVec 32 := 0#32
  ![v422.toNat, 0]
def k0_off14 (k0_t1 : Fin k0_t1_loop.trips) (c0_i32_313 : BitVec 32) : Fin 4 → Nat :=
  let c0_i32_124 : BitVec 32 := 0#32
  let c1_i32_126 : BitVec 32 := 1#32
  let arg17 : BitVec 32 := Scf.iv c0_i32_124 c1_i32_126 k0_t1
  let c1_i32_306 : BitVec 32 := 1#32
  let v421 : BitVec 32 := Scalar.addi arg17 c1_i32_306
  let c2_i32_307 : BitVec 32 := 2#32
  let v422 : BitVec 32 := Scalar.remsi v421 c2_i32_307
  let c4_i32_312 : BitVec 32 := 4#32
  let v428 : BitVec 32 := Scalar.muli v422 c4_i32_312
  let v429 : BitVec 32 := Scalar.addi v428 c0_i32_313
  let c0_i32_343 : BitVec 32 := 0#32
  let c0_i32_344 : BitVec 32 := 0#32
  let c0_i32_345 : BitVec 32 := 0#32
  ![v429.toNat, 0, 0, 0]
def k0_off15 (d0 : Dev nD) (k0_t1 : Fin k0_t1_loop.trips) (c0_i32_311 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.muli v2 c2_i32
  let c0_i32_346 : BitVec 32 := 0#32
  let c0_i32_124 : BitVec 32 := 0#32
  let c1_i32_126 : BitVec 32 := 1#32
  let arg17 : BitVec 32 := Scf.iv c0_i32_124 c1_i32_126 k0_t1
  let c1_i32_306 : BitVec 32 := 1#32
  let v421 : BitVec 32 := Scalar.addi arg17 c1_i32_306
  let v423 : BitVec 32 := Scalar.subi v2 v421
  let c32_i32_308 : BitVec 32 := 32#32
  let v424 : BitVec 32 := Scalar.addi v423 c32_i32_308
  let c32_i32_309 : BitVec 32 := 32#32
  let v425 : BitVec 32 := Scalar.remsi v424 c32_i32_309
  let c4_i32_310 : BitVec 32 := 4#32
  let v426 : BitVec 32 := Scalar.muli v425 c4_i32_310
  let v427 : BitVec 32 := Scalar.addi v426 c0_i32_311
  let c0_i32_347 : BitVec 32 := 0#32
  ![v8.toNat, 0, v427.toNat, 0]
def k0_off16 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c1_i32_306 : BitVec 32 := 1#32
  let v421 : BitVec 32 := Scalar.addi arg17 c1_i32_306
  let c2_i32_307 : BitVec 32 := 2#32
  let v422 : BitVec 32 := Scalar.remsi v421 c2_i32_307
  let c1_i32_354 : BitVec 32 := 1#32
  ![v422.toNat, 1]
def k0_off17 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c1_i32_306 : BitVec 32 := 1#32
  let v421 : BitVec 32 := Scalar.addi arg17 c1_i32_306
  let c2_i32_307 : BitVec 32 := 2#32
  let v422 : BitVec 32 := Scalar.remsi v421 c2_i32_307
  let c2_i32_366 : BitVec 32 := 2#32
  ![v422.toNat, 2]
def k0_off18 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c1_i32_306 : BitVec 32 := 1#32
  let v421 : BitVec 32 := Scalar.addi arg17 c1_i32_306
  let c2_i32_307 : BitVec 32 := 2#32
  let v422 : BitVec 32 := Scalar.remsi v421 c2_i32_307
  let c3_i32_378 : BitVec 32 := 3#32
  ![v422.toNat, 3]
def k0_off19 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c2_i32_130 : BitVec 32 := 2#32
  let v175 : BitVec 32 := Scalar.remsi arg17 c2_i32_130
  let c0_i32_165 : BitVec 32 := 0#32
  ![v175.toNat, 0]
def k0_off20 (k0_t1 : Fin k0_t1_loop.trips) (c0_i32_136 : BitVec 32) : Fin 4 → Nat :=
  let c0_i32_124 : BitVec 32 := 0#32
  let c1_i32_126 : BitVec 32 := 1#32
  let arg17 : BitVec 32 := Scf.iv c0_i32_124 c1_i32_126 k0_t1
  let c2_i32_130 : BitVec 32 := 2#32
  let v175 : BitVec 32 := Scalar.remsi arg17 c2_i32_130
  let c4_i32_135 : BitVec 32 := 4#32
  let v181 : BitVec 32 := Scalar.muli v175 c4_i32_135
  let v182 : BitVec 32 := Scalar.addi v181 c0_i32_136
  let c0_i32_166 : BitVec 32 := 0#32
  let c0_i32_167 : BitVec 32 := 0#32
  let c0_i32_168 : BitVec 32 := 0#32
  ![v182.toNat, 0, 0, 0]
def k0_off21 (d0 : Dev nD) (k0_t1 : Fin k0_t1_loop.trips) (c0_i32_134 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.muli v2 c2_i32
  let c0_i32_169 : BitVec 32 := 0#32
  let c0_i32_124 : BitVec 32 := 0#32
  let c1_i32_126 : BitVec 32 := 1#32
  let arg17 : BitVec 32 := Scf.iv c0_i32_124 c1_i32_126 k0_t1
  let v176 : BitVec 32 := Scalar.subi v2 arg17
  let c32_i32_131 : BitVec 32 := 32#32
  let v177 : BitVec 32 := Scalar.addi v176 c32_i32_131
  let c32_i32_132 : BitVec 32 := 32#32
  let v178 : BitVec 32 := Scalar.remsi v177 c32_i32_132
  let c4_i32_133 : BitVec 32 := 4#32
  let v179 : BitVec 32 := Scalar.muli v178 c4_i32_133
  let v180 : BitVec 32 := Scalar.addi v179 c0_i32_134
  let c0_i32_170 : BitVec 32 := 0#32
  ![v8.toNat, 0, v180.toNat, 0]
def k0_off22 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c2_i32_130 : BitVec 32 := 2#32
  let v175 : BitVec 32 := Scalar.remsi arg17 c2_i32_130
  let c1_i32_177 : BitVec 32 := 1#32
  ![v175.toNat, 1]
def k0_off23 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c2_i32_130 : BitVec 32 := 2#32
  let v175 : BitVec 32 := Scalar.remsi arg17 c2_i32_130
  let c2_i32_189 : BitVec 32 := 2#32
  ![v175.toNat, 2]
def k0_off24 (k0_t1 : Fin k0_t1_loop.trips) : Fin 2 → Nat :=
  let c0_i32_124 : BitVec 32 := 0#32
  let c1_i32_126 : BitVec 32 := 1#32
  let arg17 : BitVec 32 := Scf.iv c0_i32_124 c1_i32_126 k0_t1
  let c2_i32_130 : BitVec 32 := 2#32
  let v175 : BitVec 32 := Scalar.remsi arg17 c2_i32_130
  let c3_i32_201 : BitVec 32 := 3#32
  ![v175.toNat, 3]
def k0_off25 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let v259 : Index := Scalar.indexCast arg17
  let c0_213 : Index := 0#32
  let c0_214 : Index := 0#32
  ![v259.toNat, 0, 0]
def k0_off26 (k0_t1 : Fin k0_t1_loop.trips) (c0_i32_217 : BitVec 32) : Fin 4 → Nat :=
  let c0_i32_124 : BitVec 32 := 0#32
  let c1_i32_126 : BitVec 32 := 1#32
  let arg17 : BitVec 32 := Scf.iv c0_i32_124 c1_i32_126 k0_t1
  let c2_i32_128 : BitVec 32 := 2#32
  let v171 : BitVec 32 := Scalar.remsi arg17 c2_i32_128
  let c4_i32_216 : BitVec 32 := 4#32
  let v265 : BitVec 32 := Scalar.muli v171 c4_i32_216
  let v266 : BitVec 32 := Scalar.addi v265 c0_i32_217
  let v267 : Index := Scalar.indexCast v266
  let c0_218 : Index := 0#32
  let c0_219 : Index := 0#32
  let c0_220 : Index := 0#32
  ![v267.toNat, 0, 0, 0]
def k0_off27 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let v385 : Index := Scalar.indexCast arg17
  let c0_279 : Index := 0#32
  let c0_280 : Index := 0#32
  ![v385.toNat, 0, 0]
def k0_cond2 (k0_t1 : Fin k0_t1_loop.trips) : BitVec 1 :=
  let c0_i32_124 : BitVec 32 := 0#32
  let c1_i32_126 : BitVec 32 := 1#32
  let arg17 : BitVec 32 := Scf.iv c0_i32_124 c1_i32_126 k0_t1
  let c31_i32_288 : BitVec 32 := 31#32
  let v394 : BitVec 1 := Scalar.cmpi .slt arg17 c31_i32_288
  let v395 : BitVec 32 := Scalar.extui v394
  let c0_i32_289 : BitVec 32 := 0#32
  let v396 : BitVec 1 := Scalar.cmpi .ne v395 c0_i32_289
  v396

def k0_off28 (k0_t1 : Fin k0_t1_loop.trips) : Fin 1 → Nat :=
  let c0_i32_124 : BitVec 32 := 0#32
  let c1_i32_126 : BitVec 32 := 1#32
  let arg17 : BitVec 32 := Scf.iv c0_i32_124 c1_i32_126 k0_t1
  ![arg17.toNat]
def k0_off29 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c0_i32_295 : BitVec 32 := 0#32
  let c0_i32_296 : BitVec 32 := 0#32
  ![arg17.toNat, 0, 0]
def k0_off30 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c1_i32_290 : BitVec 32 := 1#32
  let v397 : BitVec 32 := Scalar.addi arg17 c1_i32_290
  let c0_i32_297 : BitVec 32 := 0#32
  let c0_i32_298 : BitVec 32 := 0#32
  ![v397.toNat, 0, 0]
def k0_off31 (k0_t1 : Fin k0_t1_loop.trips) : Fin 1 → Nat :=
  let c0_i32_124 : BitVec 32 := 0#32
  let c1_i32_126 : BitVec 32 := 1#32
  let arg17 : BitVec 32 := Scf.iv c0_i32_124 c1_i32_126 k0_t1
  let c1_i32_291 : BitVec 32 := 1#32
  let v398 : BitVec 32 := Scalar.addi arg17 c1_i32_291
  ![v398.toNat]
def k0_off32 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c0_i32_306 : BitVec 32 := 0#32
  let c0_i32_307 : BitVec 32 := 0#32
  ![arg17.toNat, 0, 0]
def k0_off33 (k0_t1 : Fin k0_t1_loop.trips) : Fin 3 → Nat :=
  let c0_i32_124 : BitVec 32 := 0#32
  let c1_i32_126 : BitVec 32 := 1#32
  let arg17 : BitVec 32 := Scf.iv c0_i32_124 c1_i32_126 k0_t1
  let c1_i32_292 : BitVec 32 := 1#32
  let v399 : BitVec 32 := Scalar.addi arg17 c1_i32_292
  let c0_i32_308 : BitVec 32 := 0#32
  let c0_i32_309 : BitVec 32 := 0#32
  ![v399.toNat, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S64x128x8192 : Shape := ⟨3, ![64, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S64x128x128x128 : Shape := ⟨4, ![64, 128, 128, 128]⟩
abbrev S1x1x128x128 : Shape := ⟨4, ![1, 1, 128, 128]⟩
abbrev S64x128x128 : Shape := ⟨3, ![64, 128, 128]⟩
abbrev S64x128x128x1 : Shape := ⟨4, ![64, 128, 128, 1]⟩
abbrev S1x1x128x1 : Shape := ⟨4, ![1, 1, 128, 1]⟩
abbrev S64x128x64x128 : Shape := ⟨4, ![64, 128, 64, 128]⟩

abbrev nBuf : Space → Nat
  | .hbm => 137
  | .vmem => 0
  | .smem => 0
  | _ => 0

abbrev hbmTy0_0 (i : Nat) : BufTy := match i % 128 with
  | 0 => ⟨S64x128x512, .f32⟩
  | 1 => ⟨S512x8192, .f32⟩
  | 2 => ⟨S64x128x128x64, .f32⟩
  | 3 => ⟨S64x128x128x64, .f32⟩
  | 4 => ⟨S8192x512, .f32⟩
  | 5 => ⟨S64x128x8192, .f32⟩
  | 6 => ⟨S64x128x128x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S128x128, .i32⟩
  | 48 => ⟨S128x128, .i32⟩
  | 49 => ⟨S128x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x128, .i32⟩
  | 95 => ⟨S128x128, .i32⟩
  | 96 => ⟨S128x128, .i1⟩
  | 97 => ⟨S128x128, .i1⟩
  | 98 => ⟨S64x128x128x128, .f32⟩
  | 99 => ⟨S_, .f32⟩
  | 100 => ⟨S64x128x128x128, .f32⟩
  | 101 => ⟨S64x128x128x128, .f32⟩
  | 102 => ⟨S1x1x128x128, .i1⟩
  | 103 => ⟨S_, .f32⟩
  | 104 => ⟨S_, .f32⟩
  | 105 => ⟨S64x128x128x128, .i1⟩
  | 106 => ⟨S64x128x128x128, .f32⟩
  | 107 => ⟨S64x128x128x128, .f32⟩
  | 108 => ⟨S_, .f32⟩
  | 109 => ⟨S64x128x128, .f32⟩
  | 110 => ⟨S64x128x128x1, .f32⟩
  | 111 => ⟨S64x128x128x128, .f32⟩
  | 112 => ⟨S64x128x128x128, .f32⟩
  | 113 => ⟨S64x128x128x128, .f32⟩
  | 114 => ⟨S_, .i1⟩
  | 115 => ⟨S128, .i1⟩
  | 116 => ⟨S1x1x128x1, .i1⟩
  | 117 => ⟨S_, .f32⟩
  | 118 => ⟨S64x128x128, .f32⟩
  | 119 => ⟨S64x128x128x1, .f32⟩
  | 120 => ⟨S_, .f32⟩
  | 121 => ⟨S_, .f32⟩
  | 122 => ⟨S64x128x128x1, .i1⟩
  | 123 => ⟨S64x128x128x1, .f32⟩
  | 124 => ⟨S64x128x128x1, .f32⟩
  | 125 => ⟨S64x128x128x128, .f32⟩
  | 126 => ⟨S64x128x128x128, .f32⟩
  | 127 => ⟨S1x1x128x1, .i1⟩
  | _ => ⟨S64x128x512, .f32⟩

abbrev hbmTy0_1 (i : Nat) : BufTy := match i % 128 with
  | 0 => ⟨S_, .f32⟩
  | 1 => ⟨S_, .f32⟩
  | 2 => ⟨S64x128x128x128, .i1⟩
  | 3 => ⟨S64x128x128x128, .f32⟩
  | 4 => ⟨S64x128x128x128, .f32⟩
  | 5 => ⟨S64x128x64x128, .f32⟩
  | 6 => ⟨S64x128x128x64, .f32⟩
  | 7 => ⟨S64x128x8192, .f32⟩
  | 8 => ⟨S64x128x512, .f32⟩
  | _ => ⟨S64x128x512, .f32⟩

abbrev hbmTy (i : Nat) : BufTy := match i / 128 with
  | 0 => hbmTy0_0 i
  | 1 => hbmTy0_1 i
  | _ => ⟨S64x128x512, .f32⟩

abbrev bufTy : (tb : Table) → Fin (tcTables nBuf tb) → BufTy
  | .hbm, ⟨i, _⟩ => hbmTy i
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Ops.lean ====
/-
  Steps of a kernel stated over OWNED SLOTS: a load or a store through a rectangle of a buffer of which only
  that rectangle is held, and a local copy whose source is a held array and whose destination a held slot.
-/
module

public import Idealize.ShloMosaic.Lib.Transfers
public import Idealize.ShloMosaic.Lib.Rounds
public import Idealize.ShloMosaic.Lib.Memref
public import Idealize.ShloMosaic.Lib.Tactic

@[expose] public section

noncomputable section

namespace Cert.Slots

open Idealize.ShloMosaic
open Idealize.SL Idealize.SL.RA
open Idealize.SL.BI (sProp Storable)
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ : Labels} {defs : Defs nD τ sig Val Λ} (𝒱 : Variants) (c : Thread nD τ) (bd : Option 𝒱.V)
variable {α : Type} {Q : α → sProp (MT nD τ sig Ix Val Name U Lvl)} {s s' : Shape} {e : EltTy}

/-- A load through a rectangle, of a slot (the rectangle with its unit axes dropped) the core owns at any share:
    what is read is `Y` when the slot's contents are `Y` at the rectangle's own indices; the slot is kept. -/
theorem load_slot {cs : CoreSpace} {m : Memref sig c.2.kind cs s e} (r : Rect s) {hl : m.view.LoadsAt r.toLoadRect}
    {k : (r.shape.Idx → Val e) → Prog (TpuEff nD τ sig Val Λ c.2) α} {q : PosShare TreeShare}
    (hr : ∀ a, r.stride a = 1) (h : r.shape.Squeezes s')
    {sl : Memref sig c.2.kind cs s' e} (hs : sl = (m.slice r hr).squeeze s' h) (Y : r.shape.Idx → Val e) :
    (owns c sl q (fun j => Y (Shape.reshapeEquiv h.numel_eq j)) : sProp 𝕄)
      ⊢ iprop((owns c sl q (fun j => Y (Shape.reshapeEquiv h.numel_eq j)) -∗ wp frame (wpE defs 𝒱 c bd) Set.univ (k Y) Q)
        -∗ wp frame (wpE defs 𝒱 c bd) Set.univ (.op (.load m r.toLoadRect hl) k) Q) := by
  subst hs
  unfold owns
  iintro ⟨%f, %hf, H⟩ Hk
  have hY : m.view.readAt Val r.toLoadRect f = Y := by
    rw [View.readAt_rect]
    refine funext fun i => ?_
    have := congrFun hf ((Shape.reshapeEquiv h.numel_eq).symm i)
    simpa only [Equiv.apply_symm_apply, Memref.view_squeeze] using (show (m.view.slice r).read Val f (Shape.reshapeEquiv h.numel_eq ((Shape.reshapeEquiv h.numel_eq).symm i)) = Y (Shape.reshapeEquiv h.numel_eq ((Shape.reshapeEquiv h.numel_eq).symm i)) from this)
  subst hY
  iapply (wp_load_rect 𝒱 c bd Set.univ (m := m) (r := r) (q := q) (f := f) (S := ((m.slice r hr).squeeze s' h).view.set)
    (le_of_eq (View.set_reshape (m.view.slice r) h.numel_eq).symm)) $$ [H]
  · iexact H
  iintro H
  iapply Hk
  iexists f
  isplitr
  · ipureintro; exact hf
  iexact H

/-- The same with what is read stated from the slot's contents. -/
theorem load_slot' {cs : CoreSpace} {m : Memref sig c.2.kind cs s e} (r : Rect s) {hl : m.view.LoadsAt r.toLoadRect}
    {k : (r.shape.Idx → Val e) → Prog (TpuEff nD τ sig Val Λ c.2) α} {q : PosShare TreeShare}
    (hr : ∀ a, r.stride a = 1) (h : r.shape.Squeezes s')
    {sl : Memref sig c.2.kind cs s' e} (hs : sl = (m.slice r hr).squeeze s' h) (X : s'.Idx → Val e) :
    (owns c sl q X : sProp 𝕄)
      ⊢ iprop((owns c sl q X -∗ wp frame (wpE defs 𝒱 c bd) Set.univ (k fun i => X ((Shape.reshapeEquiv h.numel_eq).symm i)) Q)
        -∗ wp frame (wpE defs 𝒱 c bd) Set.univ (.op (.load m r.toLoadRect hl) k) Q) := by
  have key := load_slot (defs := defs) (Q := Q) (hl := hl) (k := k) (Ix := Ix) (Name := Name) (U := U) (Lvl := Lvl) (q := q) 𝒱 c bd r hr h hs
    fun i => X ((Shape.reshapeEquiv h.numel_eq).symm i)
  simp only [Equiv.symm_apply_apply] at key
  exact key

/-- A store through a rectangle, of a slot the core owns: the slot then holds what was stored. -/
theorem store_slot {cs : CoreSpace} {m : Memref sig c.2.kind cs s e} (r : Rect s) {w : r.shape.Idx → Val e}
    {hx : (m.access r).Stores Finset.univ} {hm : (Finset.univ : Finset r.shape.Idx) = Finset.univ ∨ ∀ a, r.stride a = 1}
    {k : PUnit → Prog (TpuEff nD τ sig Val Λ c.2) α}
    (hr : ∀ a, r.stride a = 1) (h : r.shape.Squeezes s')
    {sl : Memref sig c.2.kind cs s' e} (hs : sl = (m.slice r hr).squeeze s' h) (X : s'.Idx → Val e) :
    (owns c sl fullShare X : sProp 𝕄)
      ⊢ iprop((owns c sl fullShare (fun j => w (Shape.reshapeEquiv h.numel_eq j)) -∗ wp frame (wpE defs 𝒱 c bd) Set.univ (k ⟨⟩) Q)
        -∗ wp frame (wpE defs 𝒱 c bd) Set.univ (.op (.store m r w Finset.univ hx hm) k) Q) := by
  subst hs
  unfold owns
  iintro ⟨%f, %hf, H⟩ Hk
  iapply (wp_store 𝒱 c bd Set.univ (m := m) (r := r) (Mk := Finset.univ) (f := f) (S := ((m.slice r hr).squeeze s' h).view.set)
    (le_of_eq (View.set_reshape (m.view.slice r) h.numel_eq).symm)) $$ [H]
  · iexact H
  iintro H
  iapply Hk
  iexists ((m.access r).write Val f w Finset.univ)
  isplitr
  · ipureintro
    refine funext fun j => ?_
    exact congrFun (View.read_write_univ (v := m.view.slice r) f w) (Shape.reshapeEquiv h.numel_eq j)
  iexact H

/-! ### Local copies -/

variable (EC : UEmb Counters (MT nD τ sig Ix Val Name U Lvl))

/-- A local copy in flight: what it delivers (the slot `dst` at what `src` reads of the array `A`, and the part of
    the array it reads), and beside it the rest of the array's share. -/
def fly {sp sp' : Space} (src : Memref sig c.2.kind sp s e) (dst : Memref sig c.2.kind sp' s e) (sm : SemLoc sig) (ι : Ix) (N : ℕ)
    (q : PosShare TreeShare) (A : Buf Val (src.view.loc c)) : sProp 𝕄 :=
  iprop(Transfers.Flight EC c sm ι N iprop(owns c dst fullShare (src.view.read Val A) ∗ (src.view.loc c ↦[src.view.set]{q} A))
    ∗ (src.view.loc c ↦[Finset.univ \ src.view.set]{q} A))

/-- Issuing a local copy from an array held at any share into an owned slot, on a cell at zero. -/
theorem start_copy [Infinite Name] [EC.LandsIn (upEmb : UEmb _ 𝕄)] {sp sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} (A : Buf Val (src.view.loc c))
    (ι : Ix) (N : ℕ) (hN : dst.view.amount sm = N) (hN0 : 0 < N) :
    iprop((src.view.loc c ↦{q} A) ∗ (∃ X, owns c dst fullShare X) ∗ semVal (c, sm) 0)
      ⊢ iprop((fly c EC src dst sm ι N q A -∗ wp frame (wpE defs 𝒱 c bd) Set.univ (k ⟨⟩) Q)
          -∗ wp frame (wpE defs 𝒱 c bd) Set.univ (.op (.enqueueDma src (.here dst) sm hsrc hdst hsem) k) Q) := by
  unfold fly owns
  iintro ⟨HA, ⟨%X, %g, %hg, Hd⟩, Hv⟩ Hk
  ihave HA' := (pointsTo_split_subset (Finset.subset_univ src.view.set)).1 $$ HA
  icases HA' with ⟨Hs, Hrest⟩
  iapply (Transfers.wp_dmaLocal EC 𝒱 c bd (src := src) (dst := dst) (q := q) (fs := A) (Sd := dst.view.set) (fd := g) ι N hN hN0 subset_rfl) $$ [Hs Hd Hv]
  · isplitl [Hs]; · iexact Hs
    isplitl [Hd] <;> iassumption
  iintro Hf
  iapply Hk
  isplitr [Hrest]
  · iapply (Transfers.Flight_mono EC c (sep_mono_left (by
      iintro H
      iexists _
      isplitr
      rotate_left
      · iexact H
      · ipureintro
        exact View.read_write_univ (v := dst.view) g (src.view.read Val A)))) $$ Hf
  · iexact Hrest

/-- Waiting for it: the slot at the source's contents, the array's share whole again, and the cell at zero. -/
theorem wait_copy [EC.LandsIn (upEmb : UEmb _ 𝕄)] {sp sp' : Space} {s₂ : Shape} {e₂ : EltTy} {κ' : Kind} {sp₁ sp₂ : Space} {s₁ : Shape} {e₁ : EltTy}
    {src : Memref sig c.2.kind sp s e} {dst : Memref sig c.2.kind sp' s e} {sem : DmaSem sig}
    {srcw : Memref sig c.2.kind sp₁ s₁ e₁} {dstw : Memref sig κ' sp₂ s₂ e₂} {hsrc : srcw.view.WordExact} {hdst : dstw.view.WordExact}
    {k : PUnit → Prog (TpuEff nD τ sig Val Λ c.2) α} {q : PosShare TreeShare} (A : Buf Val (src.view.loc c))
    (ι : Ix) (N : ℕ) (hN : dstw.view.dmaCredit = N) {O : CellTallies nD τ sig Ix} {W : Waits sig Ix} :
    iprop(fly c EC src dst (.dma sem) ι N q A ∗ owes c O W ∗ MayWait c (.dma sem) ι O)
      ⊢ iprop((iprop(owns c dst fullShare (src.view.read Val A) ∗ (src.view.loc c ↦{q} A) ∗ semVal (c, .dma sem) 0
              ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold fly
  iintro ⟨⟨Hf, Hrest⟩, HO, HM⟩ Hk
  iapply (Transfers.wp_waitLocalO EC 𝒱 c bd ι hN) $$ [Hf HO HM]
  · isplitl [Hf]; · iexact Hf
    isplitl [HO] <;> iassumption
  iintro ⟨⟨Hd, Hs⟩, Hv, HO⟩
  iapply Hk
  isplitl [Hd]; · iexact Hd
  isplitl [Hs Hrest]
  · iapply (pointsTo_split_subset (Finset.subset_univ src.view.set)).2 $$ [Hs Hrest]
    isplitl [Hs] <;> iassumption
  isplitl [Hv] <;> iassumption

/-- What owning a slot is: some contents of its buffer that read as stated, and the slot's part of the buffer. -/
theorem owns_def (c : Thread nD τ) {sp : Space} (m : Memref sig c.2.kind sp s e) (q : PosShare TreeShare) (X : s.Idx → Val e) :
    (owns c m q X : sProp 𝕄) = iprop(∃ f : Buf Val (m.view.loc c), ⌜m.view.read Val f = X⌝ ∗ (m.view.loc c ↦[m.view.set]{q} f)) := rfl

/-! ### Transfers to another device -/

/-- Sending a slot the core owns at a share `q` to a slot of another device it was given: the first cell's duty is paid
    with the share lent, the second's with the destination slot at the source's contents. -/
theorem send_slot {D : Type} [DecidableEq D] (E : Emb (Rounds.URounds (GSem nD τ sig) D) (MT nD τ sig Ix Val Name U Lvl)) [E.LandsIn (upEmb : UEmb _ 𝕄)]
    (Rd : Rounds.Schedule (GSem nD τ sig) D (MT nD τ sig Ix Val Name U Lvl)) [∀ g r d, Storable (upEmb : UEmb _ 𝕄) (Rd.payload g r d)]
    {c' : Thread nD τ} {sp sp' : Space} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁) (hpay₂ : owns c' dst fullShare X ⊢ Rd.payload (c', sem) r₂ d₂)
    (hr : τ.routes c c' = true := by routes) :
    iprop(Rounds.cellInv E Rd κ₁ (c, sS) ∗ Rounds.cellInv E Rd κ₂ (c', sem)
        ∗ owns c src q X ∗ (∃ Y, owns c' dst fullShare Y) ∗ owes c O₀ W
        ∗ Rounds.dutyTok E (c, sS) r₁ d₁ ∗ Rounds.reached E (c, sS) r₁ ∗ Rounds.dutyTok E (c', sem) r₂ d₂ ∗ Rounds.reached E (c', sem) r₂)
      ⊢ iprop(((cred (tallyAt (c, sS) ι' N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  iintro ⟨HI₁, HI₂, Hs, ⟨%Y, Hd⟩, HO, Ht₁, Hr₁, Ht₂, Hr₂⟩
  ihave Hs' := (Entails.of_eq (owns_def c src q X)) $$ Hs
  ihave Hd' := (Entails.of_eq (owns_def c' dst fullShare Y)) $$ Hd
  icases Hs' with ⟨%fs, %hs, Hs⟩
  icases Hd' with ⟨%fd, -, Hd⟩
  iapply (Rounds.wp_send_pointsTo 𝒱 E Rd c bd (src := src) (dst := dst) (κ₁ := κ₁) (κ₂ := κ₂) (q := q) (fs := fs) (fd := fd) hd₁ hd₂ ι ι' N hN hk₁ hk₂ O hO (W := W)
    (by
      refine Entails.trans ?_ hpay₁
      rw [owns_def]
      iintro H
      iexists fs
      isplitr; · ipureintro; exact hs
      iexact H)
    (by
      refine Entails.trans ?_ hpay₂
      rw [owns_def]
      iintro H
      iexists _
      isplitr
      rotate_left
      · iexact H
      · ipureintro
        rw [View.read_write_univ, hs]) hr) $$ [HI₁ HI₂ Hs Hd HO Ht₁ Hr₁ Ht₂ Hr₂]
  isplitl [HI₁]; · iexact HI₁
  isplitl [HI₂]; · iexact HI₂
  isplitl [Hs]; · iexact Hs
  isplitl [Hd]; · iexact Hd
  isplitl [HO]; · iexact HO
  isplitl [Ht₁]; · iexact Ht₁
  isplitl [Hr₁]; · iexact Hr₁
  isplitl [Ht₂] <;> iassumption

end Cert.Slots
-- ==== Proof.Common.lean ====
/-
  The streamed-weights attention kernel on the ring of 32 devices: its slots, its semaphore cells, and the schedule
  of what each cell's round hands over.

  Device `c` keeps 32 slots for the query weights and 32 for the output weights. Step `t` computes with slot `t`, which
  holds the weight blocks of device `c - t`, while a copy of slot `t` travels into slot `t + 1` of the next device. So
  every slot is written once, and nothing is ever overwritten. Each of the four families of transfer cells (query
  weights sent / received, output weights sent / received) has one cell per slot; the runtime's barrier cell is met
  once, at entry, and hands a device the right to write the slots of the next one.
-/
module

public import proofs.«01_k».proof.Proof.Ops
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's rounds, the ring's rounds, the counters of local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds sit in the left half of the second component. -/
def ER : Emb UB (MT nD τ sig Unit (Elt F) ℕ UU ℕ) := (Emb.inl : Emb UB (UB × Counters)).trans embR
instance ER_landsIn : (ER (F := F)).LandsIn (upEmb : UEmb _ 𝕄) := by unfold ER; infer_instance
/-- The counters of a device's local copies. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩
/-- The device `t` places before `c`: the one whose weight blocks `c` computes with at step `t`. -/
def back (c : Dev nD) (t : ℕ) : Dev nD := ⟨(c.val + 32 - t) % 32, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide
theorem back_nxt (c : Dev nD) {t : ℕ} (h : t < 32) : back (nxt c) (t + 1) = back c t := by
  refine Fin.ext ?_
  show ((c.val + 1) % 32 + 32 - (t + 1)) % 32 = (c.val + 32 - t) % 32
  omega

/-- The printed device ids: the first signal names the device before, the second and both transfers the device after. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

def ring : Dev nD ≃ Dev nD := ⟨nxt, prv, prv_nxt, nxt_prv⟩

/-! ## The slots -/

theorem inb_wq (t : Fin 32) : ∀ a, (![t.val, 0, 0] : Fin 3 → ℕ) a + S1x512x256.size a ≤ S32x512x256.size a := by
  revert t; decide +kernel
theorem inb_wo (t : Fin 32) : ∀ a, (![t.val, 0, 0] : Fin 3 → ℕ) a + S1x256x512.size a ≤ S32x256x512.size a := by
  revert t; decide +kernel

/-- The slot of the query weights for step `t`. -/
abbrev wqSlot (t : Fin 32) : Memref sig .tc .vmem S512x256 .bf16 :=
  ((Memref.whole cc0_scratch0 : Memref sig .tc .vmem S32x512x256 .bf16).slice (Rect.unit (s := S32x512x256) ![t.val, 0, 0] S1x512x256.size (inb_wq t)) (fun _ => rfl)).squeeze S512x256 squeezes_S1x512x256_S512x256
/-- The slot of the output weights for step `t`. -/
abbrev woSlot (t : Fin 32) : Memref sig .tc .vmem S256x512 .bf16 :=
  ((Memref.whole cc0_scratch1 : Memref sig .tc .vmem S32x256x512 .bf16).slice (Rect.unit (s := S32x256x512) ![t.val, 0, 0] S1x256x512.size (inb_wo t)) (fun _ => rfl)).squeeze S256x512 squeezes_S1x256x512_S256x512

/-- What a transfer of a slot adds to its cells. -/
abbrev Nq : ℕ := (wqSlot 0).view.dmaCredit
abbrev No : ℕ := (woSlot 0).view.dmaCredit
theorem Nq_pos : 0 < Nq := View.dmaCredit_pos _ (by decide)
theorem No_pos : 0 < No := View.dmaCredit_pos _ (by decide)

/-! ## The cells -/

/-- The runtime's barrier semaphore. -/
abbrev barS : Sem sig := (SemArray.scalar (sig.barrier 0 rfl) : Sems sig S_).sem

/-- The transfer semaphore of family `k` (0, 1: query weights sent, received; 2, 3: output weights) for slot `t`. -/
def wsem (k : Fin 4) (t : Fin 32) : DmaSem sig := (⟨4 + 32 * k.val + t.val, by omega⟩ : Fin 148)

/-- The family and the slot of a transfer semaphore. -/
def decode (s : SemLoc sig) : Option (Fin 4 × Fin 32) :=
  match s with
  | .reg _ => none
  | .dma i => if h : 4 ≤ (i : Fin 148).val ∧ (i : Fin 148).val < 132 then
      some (⟨((i : Fin 148).val - 4) / 32, by omega⟩, ⟨((i : Fin 148).val - 4) % 32, by omega⟩) else none

theorem decode_wsem (k : Fin 4) (t : Fin 32) : decode (.dma (wsem k t)) = some (k, t) := by
  revert k t; decide +kernel
theorem decode_bar : decode (.reg barS) = none := rfl

theorem wsem_inj {k k' : Fin 4} {t t' : Fin 32} (h : wsem k t = wsem k' t') : k = k' ∧ t = t' := by
  have := decode_wsem k t
  rw [h, decode_wsem] at this
  exact ⟨(congrArg Prod.fst (Option.some.inj this)).symm, (congrArg Prod.snd (Option.some.inj this)).symm⟩

abbrev barCell (c : Dev nD) : GSem nD τ sig := ((c : Thread nD τ), .reg barS)
abbrev wcell (c : Dev nD) (k : Fin 4) (t : Fin 32) : GSem nD τ sig := ((c : Thread nD τ), .dma (wsem k t))

theorem sem_wqS (t : Fin 32) (off : Fin 1 → ℕ) (ho : off = ![t.val]) (inb) :
    ((cc0_scratch5.slice (Rect.unit (s := S32) off S1.size inb)).squeeze S_ squeezes_S1_S_).sem = wsem 0 t := by
  subst ho; revert t; decide +kernel
theorem sem_wqR (t : Fin 32) (off : Fin 1 → ℕ) (ho : off = ![t.val]) (inb) :
    ((cc0_scratch6.slice (Rect.unit (s := S32) off S1.size inb)).squeeze S_ squeezes_S1_S_).sem = wsem 1 t := by
  subst ho; revert t; decide +kernel
theorem sem_woS (t : Fin 32) (off : Fin 1 → ℕ) (ho : off = ![t.val]) (inb) :
    ((cc0_scratch7.slice (Rect.unit (s := S32) off S1.size inb)).squeeze S_ squeezes_S1_S_).sem = wsem 2 t := by
  subst ho; revert t; decide +kernel
theorem sem_woR (t : Fin 32) (off : Fin 1 → ℕ) (ho : off = ![t.val]) (inb) :
    ((cc0_scratch8.slice (Rect.unit (s := S32) off S1.size inb)).squeeze S_ squeezes_S1_S_).sem = wsem 3 t := by
  subst ho; revert t; decide +kernel

/-! ## Contents -/

/-- The blocks a device stages: of `x`, of the query weights, of the output weights. -/
def xIn (c : Dev nD) : Vec F S2x128x512 .f32 := (win0_0.blk (0 : Fin 1)).view.read (Elt F) (m ((c : Thread nD τ).loc main_arg0))
def wqIn (c : Dev nD) : Vec F S512x256 .f32 := (win0_1.blk (0 : Fin 1)).view.read (Elt F) (m ((c : Thread nD τ).loc main_arg1))
def woIn (c : Dev nD) : Vec F S256x512 .f32 := (win0_2.blk (0 : Fin 1)).view.read (Elt F) (m ((c : Thread nD τ).loc main_arg4))

/-- What a slot holds of device `d`'s query weights (rounded as the kernel rounds them), and of its output weights. -/
def wqVal (d : Dev nD) : S512x256.Idx → Elt F .bf16 :=
  fun j => k0_pay11 (wqIn m d) (Shape.reshapeEquiv squeezes_S1x512x256_S512x256.numel_eq j)
def woVal (d : Dev nD) : S256x512.Idx → Elt F .bf16 :=
  fun j => k0_pay12 (woIn m d) (Shape.reshapeEquiv squeezes_S1x256x512_S256x512.numel_eq j)

/-- Device `c` owns its slot `t` at share `q` and contents `X`. -/
def ownQ (c : Dev nD) (t : Fin 32) (q : PosShare TreeShare) (X : S512x256.Idx → Elt F .bf16) : sProp 𝕄 := owns (c : Thread nD τ) (wqSlot t) q X
def ownO (c : Dev nD) (t : Fin 32) (q : PosShare TreeShare) (X : S256x512.Idx → Elt F .bf16) : sProp 𝕄 := owns (c : Thread nD τ) (woSlot t) q X

omit [FloatOps F] [Named F] in
instance ownQ_storable (c : Dev nD) (t q) (X) : BI.Storable (upEmb : UEmb _ 𝕄) (ownQ (F := F) c t q X) := by unfold ownQ; infer_instance
omit [FloatOps F] [Named F] in
instance ownO_storable (c : Dev nD) (t q) (X) : BI.Storable (upEmb : UEmb _ 𝕄) (ownO (F := F) c t q X) := by unfold ownO; infer_instance

/-- The two slots of step `s + 1`, at any contents. -/
def anySlots (c : Dev nD) (s : Fin 31) : sProp 𝕄 :=
  iprop((∃ X, ownQ c s.succ fullShare X) ∗ (∃ X, ownO c s.succ fullShare X))

omit [FloatOps F] [Named F] in
instance anySlots_storable (c : Dev nD) (s) : BI.Storable (upEmb : UEmb _ 𝕄) (anySlots (F := F) c s) := by unfold anySlots; infer_instance

/-! ## The schedule -/

/-- Whether family `k` ever uses its cell for slot `t`: nothing is sent out of the last slot, nothing received in the first. -/
def live (k : Fin 4) (t : Fin 32) : Bool :=
  match k with
  | 0 => decide (t.val < 31)
  | 1 => decide (0 < t.val)
  | 2 => decide (t.val < 31)
  | 3 => decide (0 < t.val)

/-- The credit of a transfer of family `k`. -/
def credit (k : Fin 4) : ℕ :=
  match k with
  | 0 => Nq
  | 1 => Nq
  | 2 => No
  | 3 => No
theorem credit_pos (k : Fin 4) : 0 < credit k := by
  unfold credit; split <;> first | exact Nq_pos | exact No_pos

/-- What the device after `c` hands `c` at the barrier: its slots 1 to 31. -/
def barPay (c : Dev nD) : sProp 𝕄 := bigSep Finset.univ fun s : Fin 31 => anySlots (nxt c) s

/-- What the one round of a transfer cell hands its device: a sent slot's lent half back; a received slot, holding the
    weight block of the device `t` places before. -/
def slotPay (c : Dev nD) (k : Fin 4) (t : Fin 32) : sProp 𝕄 :=
  match k with
  | 0 => ownQ c t fullShare.left (wqVal m (back c t.val))
  | 1 => ownQ c t fullShare (wqVal m (back c t.val))
  | 2 => ownO c t fullShare.left (woVal m (back c t.val))
  | 3 => ownO c t fullShare (woVal m (back c t.val))

instance slotPay_storable (c : Dev nD) (k t) : BI.Storable (upEmb : UEmb _ 𝕄) (slotPay m c k t) := by
  unfold slotPay; split <;> infer_instance
instance barPay_storable (c : Dev nD) : BI.Storable (upEmb : UEmb _ 𝕄) (barPay (F := F) c) := by
  unfold barPay; infer_instance

/-- The duties of a semaphore at round 0. -/
def dutiesOf (s : SemLoc sig) : Finset Bool :=
  if s = .reg barS then Finset.univ else
    match decode s with
    | some (k, t) => if live k t then {false} else ∅
    | none => ∅

def amountOf (s : SemLoc sig) : ℕ :=
  match decode s with
  | some (k, _) => credit k
  | none => 1

def payOf (c : Dev nD) (s : SemLoc sig) (d : Bool) : sProp 𝕄 :=
  match decode s with
  | some (k, t) => slotPay m c k t
  | none => if d then barPay c else iprop(emp)

/-- One round: a barrier cell has the two duties `false` (the device before; nothing) and `true` (the device after; its
    slots), one unit each; a transfer cell in use the duty `false` of the slot's credit. -/
def Rd : Rounds.Schedule (GSem nD τ sig) Bool 𝕄 where
  duties g r := if r = 0 ∧ g.1.2 = .tc then dutiesOf g.2 else ∅
  unitless _ := False
  amount g _ _ := amountOf g.2
  payload g _ d := payOf m g.1.1 g.2 d
  amount_pos g _ _ _ := by
    unfold amountOf; split
    · exact credit_pos _
    · exact Nat.one_pos

instance Rd_payload_storable (g : GSem nD τ sig) (r : ℕ) (d : Bool) :
    BI.Storable (upEmb : UEmb _ 𝕄) ((Rd (F := F) m).payload g r d) := by
  show BI.Storable upEmb (payOf m g.1.1 g.2 d)
  unfold payOf
  (repeat' split) <;> infer_instance

section Sched
variable (c : Dev nD)

theorem wcell_ne_bar (k : Fin 4) (t : Fin 32) : (SemLoc.dma (wsem k t) : SemLoc sig) ≠ .reg barS := fun h => by cases h

theorem duties_bar : (Rd (F := F) m).duties (barCell c) 0 = Finset.univ := by
  dsimp only [Rd]; rw [if_pos ⟨rfl, rfl⟩]; exact if_pos rfl
theorem duties_live {k : Fin 4} {t : Fin 32} (h : live k t = true) : (Rd (F := F) m).duties (wcell c k t) 0 = {false} := by
  dsimp only [Rd]; rw [if_pos ⟨rfl, rfl⟩]; unfold dutiesOf; rw [if_neg (wcell_ne_bar k t), decode_wsem]; exact if_pos h
theorem duties_dead {k : Fin 4} {t : Fin 32} (h : live k t = false) : (Rd (F := F) m).duties (wcell c k t) 0 = ∅ := by
  dsimp only [Rd]; rw [if_pos ⟨rfl, rfl⟩]; unfold dutiesOf; rw [if_neg (wcell_ne_bar k t), decode_wsem]
  exact if_neg (by rw [h]; exact Bool.false_ne_true)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_w (k : Fin 4) (t : Fin 32) (d : Bool) : (Rd (F := F) m).amount (wcell c k t) 0 d = credit k := by
  dsimp only [Rd]; unfold amountOf; rw [decode_wsem]

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_w {k : Fin 4} {t : Fin 32} (h : live k t = true) : (Rd (F := F) m).expect (wcell c k t) 0 = credit k := by
  unfold Schedule.expect Schedule.amountOf; rw [duties_live m c h, Finset.sum_singleton, amount_w]

theorem payload_bar_true : (Rd (F := F) m).payload (barCell c) 0 true = barPay c := rfl
theorem payload_bar_false : (Rd (F := F) m).payload (barCell c) 0 false = iprop(emp) := rfl
theorem payload_w (k : Fin 4) (t : Fin 32) (d : Bool) : (Rd (F := F) m).payload (wcell c k t) 0 d = slotPay m c k t := by
  dsimp only [Rd]; unfold payOf; rw [decode_wsem]

/-- The barrier cell's round, no duty taken: nothing, and the next device's slots. -/
theorem rest_bar : bigSep ((Rd (F := F) m).duties (barCell c) 0 \ ∅) (fun d => (Rd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_w {k : Fin 4} {t : Fin 32} (h : live k t = true) :
    bigSep ((Rd (F := F) m).duties (wcell c k t) 0 \ ∅) (fun d => (Rd (F := F) m).payload (wcell c k t) 0 d) = slotPay m c k t := by
  rw [Finset.sdiff_empty, duties_live m c h, bigSep_singleton, payload_w]

end Sched

/-! ## What each device owes; the levels -/

/-- What device `c` still owes at step `t`: for every later step the credits of the two slots it will send on. -/
def owed (c : Dev nD) (t : ℕ) : CellTallies nD τ sig Unit :=
  ∑ s ∈ (Finset.univ : Finset (Fin 31)).filter (fun s => t ≤ s.val),
    (tallyAt (wcell (nxt c) 3 s.succ) () No + tallyAt (wcell (nxt c) 1 s.succ) () Nq)
/-- At launch it owes both neighbours' barriers a unit beside. -/
def O₁ (c : Dev nD) : CellTallies nD τ sig Unit := owed c 0 + tallyAt (barCell (nxt c)) () 1
def O₀ (c : Dev nD) : CellTallies nD τ sig Unit := O₁ c + tallyAt (barCell (prv c)) () 1

theorem filter_step {t : ℕ} (h : t < 31) : (Finset.univ : Finset (Fin 31)).filter (fun s => t ≤ s.val)
    = insert (⟨t, h⟩ : Fin 31) ((Finset.univ : Finset (Fin 31)).filter (fun s => t + 1 ≤ s.val)) := by
  ext s
  simp only [Finset.mem_filter, Finset.mem_univ, true_and, Finset.mem_insert, Fin.ext_iff]
  omega
theorem not_mem_step {t : ℕ} (h : t < 31) : (⟨t, h⟩ : Fin 31) ∉ (Finset.univ : Finset (Fin 31)).filter (fun s => t + 1 ≤ s.val) := by
  simp only [Finset.mem_filter, Finset.mem_univ, true_and]; omega

/-- The credits of step `t`'s two transfers, split off. -/
theorem owed_step (c : Dev nD) {t : ℕ} (h : t < 31) :
    owed c t = (owed c (t + 1) + tallyAt (wcell (nxt c) 3 (⟨t, h⟩ : Fin 31).succ) () No) + tallyAt (wcell (nxt c) 1 (⟨t, h⟩ : Fin 31).succ) () Nq := by
  unfold owed
  rw [filter_step h, Finset.sum_insert (not_mem_step h), add_comm, add_assoc]
theorem owed_last (c : Dev nD) {t : ℕ} (h : 31 ≤ t) : owed c t = 0 := by
  unfold owed
  rw [Finset.filter_false_of_mem (fun s _ => by omega), Finset.sum_empty]

/-- The TensorCore's cells have the one index `()`. -/
def L (g : GSem nD τ sig) : Finset Unit := if g.1.2 = .tc then {()} else ∅
/-- Levels: the barrier at 1; the receive cell of slot `t` at `t + 2`; everything else at 0. -/
def lv (g : GSem nD τ sig) (_ : Unit) : ℕ :=
  if g.2 = .reg barS then 1 else
    match decode g.2 with
    | some (k, t) => if k = 1 ∨ k = 3 then t.val + 2 else 0
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) {k : Fin 4} (hk : k = 1 ∨ k = 3) (t : Fin 32) (u : Unit) : lv (wcell c k t) u = t.val + 2 := by
  unfold lv; rw [if_neg (wcell_ne_bar k t), decode_wsem]; exact if_pos hk
theorem lv_send (c : Dev nD) {k : Fin 4} (hk : ¬ (k = 1 ∨ k = 3)) (t : Fin 32) (u : Unit) : lv (wcell c k t) u = 0 := by
  unfold lv; rw [if_neg (wcell_ne_bar k t), decode_wsem]; exact if_neg hk
theorem lv_other (c : Dev nD) {s : SemLoc sig} (hb : s ≠ .reg barS) (hd : decode s = none) (u : Unit) : lv ((c : Thread nD τ), s) u = 0 := by
  unfold lv; rw [if_neg hb]; simp only [hd]

theorem owed_pos {c : Dev nD} {t : ℕ} {g : GSem nD τ sig} {u : Unit} (h : 0 < owed c t g u) :
    ∃ s : Fin 31, t ≤ s.val ∧ (g = wcell (nxt c) 3 s.succ ∨ g = wcell (nxt c) 1 s.succ) := by
  unfold owed at h
  rw [Finset.sum_apply, Finsupp.finset_sum_apply] at h
  obtain ⟨s, hs, hne⟩ := Finset.exists_ne_zero_of_sum_ne_zero (Nat.ne_of_gt h)
  refine ⟨s, (Finset.mem_filter.mp hs).2, ?_⟩
  rw [Pi.add_apply, Finsupp.add_apply, tallyAt_apply, tallyAt_apply] at hne
  by_contra hn
  rw [not_or] at hn
  rw [if_neg (fun h' => hn.1 h'.1), if_neg (fun h' => hn.2 h'.1)] at hne
  exact hne rfl

theorem O₀_pos {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply, tallyAt_apply, tallyAt_apply] at h
  by_cases h1 : g = barCell (nxt c) ∧ u = ()
  · rw [h1.1, lv_bar]; exact ⟨rfl, Nat.one_pos⟩
  by_cases h2 : g = barCell (prv c) ∧ u = ()
  · rw [h2.1, lv_bar]; exact ⟨rfl, Nat.one_pos⟩
  rw [if_neg h1, if_neg h2, add_zero, add_zero] at h
  obtain ⟨s, -, rfl | rfl⟩ := owed_pos h
  · rw [lv_recv _ (.inr rfl)]; exact ⟨rfl, by omega⟩
  · rw [lv_recv _ (.inl rfl)]; exact ⟨rfl, by omega⟩

omit [FloatOps F] [Named F] in
/-- A wait on a cell whose level is at most `cut`, everything owed above `cut`. -/
theorem mayWait_of (c : Dev nD) (sm : SemLoc sig) (O : CellTallies nD τ sig Unit) (cut : ℕ) (hs : lv ((c : Thread nD τ), sm) () ≤ cut)
    (hO : ∀ g u, 0 < O g u → g.1.2 = .tc ∧ cut < lv g u) : (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] [Named F] in
/-- At step `t`, having sent, a device may wait on any cell of level at most `t + 3`: its own receive cell of slot `t + 1` is one. -/
theorem mayWait_owed (c : Dev nD) (sm : SemLoc sig) (t : ℕ) (hs : lv ((c : Thread nD τ), sm) () ≤ t + 2) :
    (levAts L lv : sProp 𝕄) ⊢ MayWait (c : Thread nD τ) sm () (owed c t) :=
  mayWait_of c sm _ (t + 2) hs fun g u hg => by
    obtain ⟨s, hs, rfl | rfl⟩ := owed_pos hg
    · rw [lv_recv _ (.inr rfl), Fin.val_succ]; exact ⟨rfl, by omega⟩
    · rw [lv_recv _ (.inl rfl), Fin.val_succ]; exact ⟨rfl, by omega⟩

omit [FloatOps F] [Named F] in
theorem mayWait_O₀ (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact mayWait_of c sm _ 0 (le_of_eq hs) fun g u hg => O₀_pos hg
  · rw [MayWait_zero]; iintro -; iempintro

end Cert.Stream
-- ==== Proof.Kv.lean ====
/-
  The key and value heads of the streamed-weights attention kernel: at each step a device copies, from its own replica
  of the key and of the value array, the four heads of the weight block it is at, into one of two sets of four slots;
  the copies for step `t + 1` are issued before those for step `t` are waited for. Each of the sixteen copies of two
  steps has its own cell, and is lent its own part of the share of the array it reads.
-/
module

public import proofs.«01_k».proof.Proof.Common

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ)

/-- What a device still owes before step `t`, whatever it has waited on. -/
def debt (c : Dev nD) (t : ℕ) : sProp 𝕄 := iprop(∃ W, owes (c : Thread nD τ) (owed c t) W)

/-! ## Sources, slots, cells -/

theorem inb_kSrc (c g : Dev nD) (h : Fin 4) : ∀ a, (![2 * c.val, 0, 4 * g.val + h.val, 0] : Fin 4 → ℕ) a + S2x128x1x64.size a ≤ S64x128x128x64.size a := by
  have hc : c.val < 32 := c.isLt
  have hg : g.val < 32 := g.isLt
  have hh := h.isLt
  intro a
  match a with
  | 0 => show 2 * c.val + 2 ≤ 64; omega
  | 1 => show 0 + 128 ≤ 128; omega
  | 2 => show 4 * g.val + h.val + 1 ≤ 128; omega
  | 3 => show 0 + 64 ≤ 64; omega

theorem inb_kBuf (p : Fin 2) (h : Fin 4) : ∀ a, (![4 * p.val + h.val, 0, 0, 0] : Fin 4 → ℕ) a + S1x2x128x64.size a ≤ S8x2x128x64.size a := by
  revert p h; decide +kernel

/-- Head `h` of block `g`, of the two batches of device `c`: of the keys, and of the values. -/
abbrev kSrc (c g : Dev nD) (h : Fin 4) : Memref sig .tc .hbm S2x128x64 .f32 :=
  ((Memref.whole main_arg2 : Memref sig .tc .hbm S64x128x128x64 .f32).slice (Rect.unit (s := S64x128x128x64) ![2 * c.val, 0, 4 * g.val + h.val, 0] S2x128x1x64.size (inb_kSrc c g h)) (fun _ => rfl)).squeeze S2x128x64 squeezes_S2x128x1x64_S2x128x64
abbrev vSrc (c g : Dev nD) (h : Fin 4) : Memref sig .tc .hbm S2x128x64 .f32 :=
  ((Memref.whole main_arg3 : Memref sig .tc .hbm S64x128x128x64 .f32).slice (Rect.unit (s := S64x128x128x64) ![2 * c.val, 0, 4 * g.val + h.val, 0] S2x128x1x64.size (inb_kSrc c g h)) (fun _ => rfl)).squeeze S2x128x64 squeezes_S2x128x1x64_S2x128x64

/-- The slot of head `h` in the set `p`. -/
abbrev kBuf (p : Fin 2) (h : Fin 4) : Memref sig .tc .vmem S2x128x64 .f32 :=
  ((Memref.whole cc0_scratch2 : Memref sig .tc .vmem S8x2x128x64 .f32).slice (Rect.unit (s := S8x2x128x64) ![4 * p.val + h.val, 0, 0, 0] S1x2x128x64.size (inb_kBuf p h)) (fun _ => rfl)).squeeze S2x128x64 squeezes_S1x2x128x64_S2x128x64
abbrev vBuf (p : Fin 2) (h : Fin 4) : Memref sig .tc .vmem S2x128x64 .f32 :=
  ((Memref.whole cc0_scratch3 : Memref sig .tc .vmem S8x2x128x64 .f32).slice (Rect.unit (s := S8x2x128x64) ![4 * p.val + h.val, 0, 0, 0] S1x2x128x64.size (inb_kBuf p h)) (fun _ => rfl)).squeeze S2x128x64 squeezes_S1x2x128x64_S2x128x64

/-- Its cell: of the key copies, and of the value copies. -/
def ksem (p : Fin 2) (h : Fin 4) : DmaSem sig := (⟨132 + 4 * p.val + h.val, by omega⟩ : Fin 148)
def vsem (p : Fin 2) (h : Fin 4) : DmaSem sig := (⟨140 + 4 * p.val + h.val, by omega⟩ : Fin 148)

theorem sem_k (p : Fin 2) (h : Fin 4) (off : Fin 2 → ℕ) (ho : off = ![p.val, h.val]) (inb) :
    ((cc0_scratch9.slice (Rect.unit (s := S2x4) off S1x1.size inb)).squeeze S_ squeezes_S1x1_S_).sem = ksem p h := by
  subst ho; revert p h; decide +kernel
theorem sem_v (p : Fin 2) (h : Fin 4) (off : Fin 2 → ℕ) (ho : off = ![p.val, h.val]) (inb) :
    ((cc0_scratch10.slice (Rect.unit (s := S2x4) off S1x1.size inb)).squeeze S_ squeezes_S1x1_S_).sem = vsem p h := by
  subst ho; revert p h; decide +kernel

theorem lv_k (c : Dev nD) (p : Fin 2) (h : Fin 4) : lv ((c : Thread nD τ), .dma (ksem p h)) () = 0 :=
  lv_other c (fun h => by cases h) (by revert p h; decide +kernel) ()
theorem lv_v (c : Dev nD) (p : Fin 2) (h : Fin 4) : lv ((c : Thread nD τ), .dma (vsem p h)) () = 0 :=
  lv_other c (fun h => by cases h) (by revert p h; decide +kernel) ()

/-- The part of the share of the array lent to the copies into slot `(p, h)`. -/
abbrev tok (p : Fin 2) (h : Fin 4) : PosShare TreeShare := Transfers.shareTok fullShare 8 (⟨4 * p.val + h.val, by omega⟩ : Fin 8)

/-- What a copy of a head adds to its cell. -/
abbrev Nh : ℕ := (kBuf 0 0).view.dmaCredit
theorem Nh_pos : 0 < Nh := View.dmaCredit_pos _ (by decide)

/-- The contents of a head: what the source reads of the array. -/
def kVal (c g : Dev nD) (h : Fin 4) : S2x128x64.Idx → Elt F .f32 := (kSrc c g h).view.read (Elt F) (m ((c : Thread nD τ).loc main_arg2))
def vVal (c g : Dev nD) (h : Fin 4) : S2x128x64.Idx → Elt F .f32 := (vSrc c g h).view.read (Elt F) (m ((c : Thread nD τ).loc main_arg3))

/-- The same as a load of the slot reads it. -/
def kRow (c g : Dev nD) (h : Fin 4) : S1x2x128x64.Idx → Elt F .f32 :=
  fun i => kVal m c g h ((Shape.reshapeEquiv squeezes_S1x2x128x64_S2x128x64.numel_eq).symm i)
def vRow (c g : Dev nD) (h : Fin 4) : S1x2x128x64.Idx → Elt F .f32 :=
  fun i => vVal m c g h ((Shape.reshapeEquiv squeezes_S1x2x128x64_S2x128x64.numel_eq).symm i)

/-! ## A slot idle, being filled, filled -/

def kIdle (c : Dev nD) (p : Fin 2) (h : Fin 4) : sProp 𝕄 :=
  iprop((((c : Thread nD τ).loc main_arg2) ↦{tok p h} m ((c : Thread nD τ).loc main_arg2)) ∗ (∃ X, owns (c : Thread nD τ) (kBuf p h) fullShare X)
    ∗ semVal ((c : Thread nD τ), .dma (ksem p h)) 0)
def vIdle (c : Dev nD) (p : Fin 2) (h : Fin 4) : sProp 𝕄 :=
  iprop((((c : Thread nD τ).loc main_arg3) ↦{tok p h} m ((c : Thread nD τ).loc main_arg3)) ∗ (∃ X, owns (c : Thread nD τ) (vBuf p h) fullShare X)
    ∗ semVal ((c : Thread nD τ), .dma (vsem p h)) 0)

def kFly (c : Dev nD) (p : Fin 2) (g : Dev nD) (h : Fin 4) : sProp 𝕄 :=
  Slots.fly (c : Thread nD τ) EC (kSrc c g h) (kBuf p h) (.dma (ksem p h)) () Nh (tok p h) (m ((c : Thread nD τ).loc main_arg2))
def vFly (c : Dev nD) (p : Fin 2) (g : Dev nD) (h : Fin 4) : sProp 𝕄 :=
  Slots.fly (c : Thread nD τ) EC (vSrc c g h) (vBuf p h) (.dma (vsem p h)) () Nh (tok p h) (m ((c : Thread nD τ).loc main_arg3))

def kHeld (c : Dev nD) (p : Fin 2) (g : Dev nD) (h : Fin 4) : sProp 𝕄 :=
  iprop((((c : Thread nD τ).loc main_arg2) ↦{tok p h} m ((c : Thread nD τ).loc main_arg2)) ∗ owns (c : Thread nD τ) (kBuf p h) fullShare (kVal m c g h)
    ∗ semVal ((c : Thread nD τ), .dma (ksem p h)) 0)
def vHeld (c : Dev nD) (p : Fin 2) (g : Dev nD) (h : Fin 4) : sProp 𝕄 :=
  iprop((((c : Thread nD τ).loc main_arg3) ↦{tok p h} m ((c : Thread nD τ).loc main_arg3)) ∗ owns (c : Thread nD τ) (vBuf p h) fullShare (vVal m c g h)
    ∗ semVal ((c : Thread nD τ), .dma (vsem p h)) 0)

omit [FloatOps F] [Named F] in
theorem kHeld_idle (c p g h) : kHeld m c p g h ⊢ kIdle m c p h := by
  unfold kHeld kIdle
  iintro ⟨HA, Hd, Hv⟩
  isplitl [HA]; · iexact HA
  isplitl [Hd]; · iexists _; iexact Hd
  iexact Hv
omit [FloatOps F] [Named F] in
theorem vHeld_idle (c p g h) : vHeld m c p g h ⊢ vIdle m c p h := by
  unfold vHeld vIdle
  iintro ⟨HA, Hd, Hv⟩
  isplitl [HA]; · iexact HA
  isplitl [Hd]; · iexists _; iexact Hd
  iexact Hv

/-! ## The three operations, at the offsets the program computes -/

section Ops
variable {β : Type} {Q : β → sProp (MT nD τ sig Unit (Elt F) ℕ UU ℕ)}
variable (c : Dev nD) (p : Fin 2) (g : Dev nD) (h : Fin 4)
variable {offS : Fin 4 → ℕ} {offD : Fin 4 → ℕ} {offM : Fin 2 → ℕ}
  (hoS : offS = ![2 * c.val, 0, 4 * g.val + h.val, 0]) (hoD : offD = ![4 * p.val + h.val, 0, 0, 0]) (hoM : offM = ![p.val, h.val])
variable {inbS : ∀ a, offS a + S2x128x1x64.size a ≤ S64x128x128x64.size a} {inbD : ∀ a, offD a + S1x2x128x64.size a ≤ S8x2x128x64.size a}
  {inbM : ∀ a, offM a + S1x1.size a ≤ S2x4.size a}

include hoS hoD hoM

/-- Issuing the copy of a key head. -/
theorem start_k {k : PUnit → Prog (TpuEff nD τ sig (Elt F) Λ₀ .tc) β} {hsrc hdst hsem} :
    kIdle m c p h ⊢ iprop((kFly m c p g h -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma
          (((Memref.whole main_arg2 : Memref sig .tc .hbm S64x128x128x64 .f32).slice (Rect.unit (s := S64x128x128x64) offS S2x128x1x64.size inbS) (fun _ => rfl)).squeeze S2x128x64 squeezes_S2x128x1x64_S2x128x64)
          (.here (((Memref.whole cc0_scratch2 : Memref sig .tc .vmem S8x2x128x64 .f32).slice (Rect.unit (s := S8x2x128x64) offD S1x2x128x64.size inbD) (fun _ => rfl)).squeeze S2x128x64 squeezes_S1x2x128x64_S2x128x64))
          (.dma ((cc0_scratch9.slice (Rect.unit (s := S2x4) offM S1x1.size inbM)).squeeze S_ squeezes_S1x1_S_).sem) hsrc hdst hsem) k) Q) := by
  have hs := sem_k p h offM hoM inbM
  subst hoS hoD
  revert hsem
  rw [hs]
  intro hsem
  unfold kIdle kFly
  exact Slots.start_copy 𝒱₀ (c : Thread nD τ) none EC (src := kSrc c g h) (dst := kBuf p h) (m ((c : Thread nD τ).loc main_arg2)) () Nh rfl Nh_pos

/-- Waiting for it. -/
theorem wait_k (t : ℕ) {k : PUnit → Prog (TpuEff nD τ sig (Elt F) Λ₀ .tc) β} {hsrc hdst} :
    iprop(levAts L lv ∗ kFly m c p g h ∗ debt c t) ⊢ iprop(((kHeld m c p g h ∗ debt c t) -∗ wp frame (wpE (defs₀ (F := F)) 𝒱₀ (c : Thread nD τ) none) Set.univ (k ⟨⟩) Q)
      -∗ wp frame (wpE (defs₀ (F := F)) 𝒱₀ (c : Thread nD τ) none) Set.univ
        (.op (.waitDma2 ((cc0_scratch9.slice (Rect.unit (s := S2x4) offM S1x1.size inbM)).squeeze S_ squeezes_S1x1_S_).sem
          (((Memref.whole main_arg2 : Memref sig .tc .hbm S64x128x128x64 .f32).slice (Rect.unit (s := S64x128x128x64) offS S2x128x1x64.size inbS) (fun _ => rfl)).squeeze S2x128x64 squeezes_S2x128x1x64_S2x128x64)
          (((Memref.whole cc0_scratch2 : Memref sig .tc .vmem S8x2x128x64 .f32).slice (Rect.unit (s := S8x2x128x64) offD S1x2x128x64.size inbD) (fun _ => rfl)).squeeze S2x128x64 squeezes_S1x2x128x64_S2x128x64)
          hsrc hdst) k) Q) := by
  have hs := sem_k p h offM hoM inbM
  subst hoS hoD
  rw [hs]
  unfold kFly kHeld kVal debt
  iintro ⟨#Hlev, Hf, %W, HO⟩ Hk
  iapply (Slots.wait_copy 𝒱₀ (c : Thread nD τ) none EC (src := kSrc c g h) (dst := kBuf p h) (srcw := kSrc c g h) (dstw := kBuf p h) (hsrc := hsrc) (hdst := hdst) (m ((c : Thread nD τ).loc main_arg2)) () Nh rfl (O := owed c t) (W := W)) $$ [Hf HO]
  · isplitl [Hf]; · iexact Hf
    isplitl [HO]; · iexact HO
    iapply (mayWait_owed c (.dma (ksem p h)) t (by rw [lv_k]; omega)); iexact Hlev
  iintro ⟨Hd, HA, Hv, HO⟩
  iapply Hk
  isplitr [HO]
  · isplitl [HA]; · iexact HA
    isplitl [Hd]; · iexact Hd
    iexact Hv
  · iexists _; iexact HO

omit hoS hoM in
/-- Reading the filled slot. -/
theorem load_k {k : (S1x2x128x64.Idx → Elt F .f32) → Prog (TpuEff nD τ sig (Elt F) Λ₀ .tc) β} {hl} :
    kHeld m c p g h ⊢ iprop((kHeld m c p g h -∗ wp frame (wpE (defs₀ (F := F)) 𝒱₀ (c : Thread nD τ) none) Set.univ (k (kRow m c g h)) Q)
      -∗ wp frame (wpE (defs₀ (F := F)) 𝒱₀ (c : Thread nD τ) none) Set.univ
        (.op (.load (Memref.whole cc0_scratch2 : Memref sig .tc .vmem S8x2x128x64 .f32) (Rect.unit (s := S8x2x128x64) offD S1x2x128x64.size inbD).toLoadRect hl) k) Q) := by
  subst hoD
  unfold kHeld kRow
  iintro ⟨HA, Hd, Hv⟩ Hk
  iapply (Slots.load_slot' 𝒱₀ (c : Thread nD τ) none (Rect.unit (s := S8x2x128x64) ![4 * p.val + h.val, 0, 0, 0] S1x2x128x64.size (inb_kBuf p h)) (fun _ => rfl) squeezes_S1x2x128x64_S2x128x64 rfl (kVal m c g h)) $$ [Hd]
  · iexact Hd
  iintro Hd
  iapply Hk
  isplitl [HA]; · iexact HA
  isplitl [Hd]; · iexact Hd
  iexact Hv

/-- Issuing the copy of a value head. -/
theorem start_v {k : PUnit → Prog (TpuEff nD τ sig (Elt F) Λ₀ .tc) β} {hsrc hdst hsem} :
    vIdle m c p h ⊢ iprop((vFly m c p g h -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma
          (((Memref.whole main_arg3 : Memref sig .tc .hbm S64x128x128x64 .f32).slice (Rect.unit (s := S64x128x128x64) offS S2x128x1x64.size inbS) (fun _ => rfl)).squeeze S2x128x64 squeezes_S2x128x1x64_S2x128x64)
          (.here (((Memref.whole cc0_scratch3 : Memref sig .tc .vmem S8x2x128x64 .f32).slice (Rect.unit (s := S8x2x128x64) offD S1x2x128x64.size inbD) (fun _ => rfl)).squeeze S2x128x64 squeezes_S1x2x128x64_S2x128x64))
          (.dma ((cc0_scratch10.slice (Rect.unit (s := S2x4) offM S1x1.size inbM)).squeeze S_ squeezes_S1x1_S_).sem) hsrc hdst hsem) k) Q) := by
  have hs := sem_v p h offM hoM inbM
  subst hoS hoD
  revert hsem
  rw [hs]
  intro hsem
  unfold vIdle vFly
  exact Slots.start_copy 𝒱₀ (c : Thread nD τ) none EC (src := vSrc c g h) (dst := vBuf p h) (m ((c : Thread nD τ).loc main_arg3)) () Nh rfl Nh_pos

/-- Waiting for it. -/
theorem wait_v (t : ℕ) {k : PUnit → Prog (TpuEff nD τ sig (Elt F) Λ₀ .tc) β} {hsrc hdst} :
    iprop(levAts L lv ∗ vFly m c p g h ∗ debt c t) ⊢ iprop(((vHeld m c p g h ∗ debt c t) -∗ wp frame (wpE (defs₀ (F := F)) 𝒱₀ (c : Thread nD τ) none) Set.univ (k ⟨⟩) Q)
      -∗ wp frame (wpE (defs₀ (F := F)) 𝒱₀ (c : Thread nD τ) none) Set.univ
        (.op (.waitDma2 ((cc0_scratch10.slice (Rect.unit (s := S2x4) offM S1x1.size inbM)).squeeze S_ squeezes_S1x1_S_).sem
          (((Memref.whole main_arg3 : Memref sig .tc .hbm S64x128x128x64 .f32).slice (Rect.unit (s := S64x128x128x64) offS S2x128x1x64.size inbS) (fun _ => rfl)).squeeze S2x128x64 squeezes_S2x128x1x64_S2x128x64)
          (((Memref.whole cc0_scratch3 : Memref sig .tc .vmem S8x2x128x64 .f32).slice (Rect.unit (s := S8x2x128x64) offD S1x2x128x64.size inbD) (fun _ => rfl)).squeeze S2x128x64 squeezes_S1x2x128x64_S2x128x64)
          hsrc hdst) k) Q) := by
  have hs := sem_v p h offM hoM inbM
  subst hoS hoD
  rw [hs]
  unfold vFly vHeld vVal debt
  iintro ⟨#Hlev, Hf, %W, HO⟩ Hk
  iapply (Slots.wait_copy 𝒱₀ (c : Thread nD τ) none EC (src := vSrc c g h) (dst := vBuf p h) (srcw := vSrc c g h) (dstw := vBuf p h) (hsrc := hsrc) (hdst := hdst) (m ((c : Thread nD τ).loc main_arg3)) () Nh rfl (O := owed c t) (W := W)) $$ [Hf HO]
  · isplitl [Hf]; · iexact Hf
    isplitl [HO]; · iexact HO
    iapply (mayWait_owed c (.dma (vsem p h)) t (by rw [lv_v]; omega)); iexact Hlev
  iintro ⟨Hd, HA, Hv, HO⟩
  iapply Hk
  isplitr [HO]
  · isplitl [HA]; · iexact HA
    isplitl [Hd]; · iexact Hd
    iexact Hv
  · iexists _; iexact HO

omit hoS hoM in
/-- Reading the filled slot. -/
theorem load_v {k : (S1x2x128x64.Idx → Elt F .f32) → Prog (TpuEff nD τ sig (Elt F) Λ₀ .tc) β} {hl} :
    vHeld m c p g h ⊢ iprop((vHeld m c p g h -∗ wp frame (wpE (defs₀ (F := F)) 𝒱₀ (c : Thread nD τ) none) Set.univ (k (vRow m c g h)) Q)
      -∗ wp frame (wpE (defs₀ (F := F)) 𝒱₀ (c : Thread nD τ) none) Set.univ
        (.op (.load (Memref.whole cc0_scratch3 : Memref sig .tc .vmem S8x2x128x64 .f32) (Rect.unit (s := S8x2x128x64) offD S1x2x128x64.size inbD).toLoadRect hl) k) Q) := by
  subst hoD
  unfold vHeld vRow
  iintro ⟨HA, Hd, Hv⟩ Hk
  iapply (Slots.load_slot' 𝒱₀ (c : Thread nD τ) none (Rect.unit (s := S8x2x128x64) ![4 * p.val + h.val, 0, 0, 0] S1x2x128x64.size (inb_kBuf p h)) (fun _ => rfl) squeezes_S1x2x128x64_S2x128x64 rfl (vVal m c g h)) $$ [Hd]
  · iexact Hd
  iintro Hd
  iapply Hk
  isplitl [HA]; · iexact HA
  isplitl [Hd]; · iexact Hd
  iexact Hv

end Ops

end Cert.Stream
-- ==== Proof.Ring.lean ====
/-
  The transfers of the ring: sending a slot of the query or of the output weights on to the next device, waiting for a
  transfer cell, and the records of all cells that every device keeps.
-/
module

public import proofs.«01_k».proof.Proof.Kv

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The records -/

/-- A device's cells under the schedule: the barrier's, and the four families of transfer cells. -/
abbrev CI : Type := Option (Fin 4 × Fin 32)
def kcell (ck : Dev nD × CI) : GSem nD τ sig :=
  match ck.2 with
  | none => barCell ck.1
  | some (k, t) => wcell ck.1 k t

/-- Every cell's invariant, under the names `K`, and that every cell has reached round 0. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (Rd m) (K ck) (kcell ck) := by
  unfold records
  iintro ⟨H, -⟩
  have h : (bigSep Finset.univ fun ck : Dev nD × CI => (cellInv ER (Rd m) (K ck) (kcell ck) : sProp 𝕄)) ⊢ cellInv ER (Rd m) (K ck) (kcell ck) :=
    bigSep_elim (Finset.mem_univ ck)
  iapply h; iexact H
theorem reached_at (K : Dev nD × CI → ℕ) (ck : Dev nD × CI) : records m K ⊢ reached ER (kcell ck) 0 := by
  unfold records
  iintro ⟨-, H⟩
  have h : (bigSep Finset.univ fun ck : Dev nD × CI => (reached ER (kcell ck) 0 : sProp 𝕄)) ⊢ reached ER (kcell ck) 0 :=
    bigSep_elim (Finset.mem_univ ck)
  iapply h; iexact H

section Steps

variable (K : Dev nD × CI → ℕ) (c : Dev nD)
variable {β : Type} {Q : β → sProp (MT nD τ sig Unit (Elt F) ℕ UU ℕ)}

/-- Sending the slot of step `s` of the query weights into the next device's slot of step `s + 1`. -/
theorem send_wq (s : Fin 31) (n : Dev nD) (hn : n = nxt c) (O : CellTallies nD τ sig Unit)
    {offS offD : Fin 3 → ℕ} {offM offR : Fin 1 → ℕ}
    (hoS : offS = ![s.castSucc.val, 0, 0]) (hoD : offD = ![s.succ.val, 0, 0]) (hoM : offM = ![s.castSucc.val]) (hoR : offR = ![s.succ.val])
    {inbS : ∀ a, offS a + S1x512x256.size a ≤ S32x512x256.size a} {inbD : ∀ a, offD a + S1x512x256.size a ≤ S32x512x256.size a}
    {inbM : ∀ a, offM a + S1.size a ≤ S32.size a} {inbR : ∀ a, offR a + S1.size a ≤ S32.size a}
    {k : PUnit → Prog (TpuEff nD τ sig (Elt F) Λ₀ .tc) β} {hsc hsrc hdst hsem} :
    iprop(records m K ∗ ownQ c s.castSucc fullShare.left (wqVal m (back c s.val)) ∗ (∃ X, ownQ (nxt c) s.succ fullShare X)
        ∗ (∃ W, owes (c : Thread nD τ) (O + tallyAt (wcell (nxt c) 1 s.succ) () Nq) W)
        ∗ dutyTok ER (wcell c 0 s.castSucc) 0 false ∗ dutyTok ER (wcell (nxt c) 1 s.succ) 0 false)
      ⊢ iprop(((cred (tallyAt (wcell c 0 s.castSucc) () Nq) ∗ (∃ W, owes (c : Thread nD τ) O W))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma
              (((Memref.whole cc0_scratch0 : Memref sig .tc .vmem S32x512x256 .bf16).slice (Rect.unit (s := S32x512x256) offS S1x512x256.size inbS) (fun _ => rfl)).squeeze S512x256 squeezes_S1x512x256_S512x256)
              (.remote (Dev.tc n : Thread nD τ)
                (((Memref.whole cc0_scratch0 : Memref sig .tc .vmem S32x512x256 .bf16).slice (Rect.unit (s := S32x512x256) offD S1x512x256.size inbD) (fun _ => rfl)).squeeze S512x256 squeezes_S1x512x256_S512x256)
                (.dma ((cc0_scratch5.slice (Rect.unit (s := S32) offM S1.size inbM)).squeeze S_ squeezes_S1_S_).sem) hsc)
              (.dma ((cc0_scratch6.slice (Rect.unit (s := S32) offR S1.size inbR)).squeeze S_ squeezes_S1_S_).sem) hsrc hdst hsem) k) Q) := by
  have h1 := sem_wqS s.castSucc offM hoM inbM
  have h2 := sem_wqR s.succ offR hoR inbR
  subst hn hoS hoD
  revert hsem
  rw [h1, h2]
  intro hsem
  unfold ownQ
  iintro ⟨#HR, Hs, Hd, ⟨%W, HO⟩, Ht₁, Ht₂⟩ Hk
  ihave #HI₁ := (inv_at m K (c, some (0, s.castSucc))) $$ HR
  ihave #HI₂ := (inv_at m K (nxt c, some (1, s.succ))) $$ HR
  ihave #Hr₁ := (reached_at m K (c, some (0, s.castSucc))) $$ HR
  ihave #Hr₂ := (reached_at m K (nxt c, some (1, s.succ))) $$ HR
  have hl₁ : live 0 s.castSucc = true := decide_eq_true (show s.castSucc.val < 31 by rw [Fin.val_castSucc]; exact s.isLt)
  have hl₂ : live 1 s.succ = true := decide_eq_true (show 0 < s.succ.val by rw [Fin.val_succ]; omega)
  iapply (Slots.send_slot 𝒱₀ (c : Thread nD τ) none ER (Rd m) (c' := (nxt c : Thread nD τ)) (src := wqSlot s.castSucc) (dst := wqSlot s.succ)
    (sS := .dma (wsem 0 s.castSucc)) (sem := .dma (wsem 1 s.succ)) (hsc := hsc) (hsrc := hsrc) (hdst := hdst) (hsem := hsem)
    (κ₁ := K (c, some (0, s.castSucc))) (κ₂ := K (nxt c, some (1, s.succ))) (q := fullShare.left) (X := wqVal m (back c s.val))
    (r₁ := 0) (r₂ := 0) (d₁ := false) (d₂ := false)
    (by rw [duties_live m c hl₁]; exact Finset.mem_singleton_self _) (by rw [duties_live m (nxt c) hl₂]; exact Finset.mem_singleton_self _)
    () () Nq rfl (amount_w m c 0 s.castSucc false) (amount_w m (nxt c) 1 s.succ false) O rfl (W := W)
    (by rw [payload_w]; exact BI.Entails.refl _)
    (by rw [payload_w]; show _ ⊢ ownQ (nxt c) s.succ fullShare (wqVal m (back (nxt c) s.succ.val))
        rw [Fin.val_succ, back_nxt c (by omega)]; exact BI.Entails.refl _)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- Sending the slot of step `s` of the output weights into the next device's slot of step `s + 1`. -/
theorem send_wo (s : Fin 31) (n : Dev nD) (hn : n = nxt c) (O : CellTallies nD τ sig Unit)
    {offS offD : Fin 3 → ℕ} {offM offR : Fin 1 → ℕ}
    (hoS : offS = ![s.castSucc.val, 0, 0]) (hoD : offD = ![s.succ.val, 0, 0]) (hoM : offM = ![s.castSucc.val]) (hoR : offR = ![s.succ.val])
    {inbS : ∀ a, offS a + S1x256x512.size a ≤ S32x256x512.size a} {inbD : ∀ a, offD a + S1x256x512.size a ≤ S32x256x512.size a}
    {inbM : ∀ a, offM a + S1.size a ≤ S32.size a} {inbR : ∀ a, offR a + S1.size a ≤ S32.size a}
    {k : PUnit → Prog (TpuEff nD τ sig (Elt F) Λ₀ .tc) β} {hsc hsrc hdst hsem} :
    iprop(records m K ∗ ownO c s.castSucc fullShare.left (woVal m (back c s.val)) ∗ (∃ X, ownO (nxt c) s.succ fullShare X)
        ∗ (∃ W, owes (c : Thread nD τ) (O + tallyAt (wcell (nxt c) 3 s.succ) () No) W)
        ∗ dutyTok ER (wcell c 2 s.castSucc) 0 false ∗ dutyTok ER (wcell (nxt c) 3 s.succ) 0 false)
      ⊢ iprop(((cred (tallyAt (wcell c 2 s.castSucc) () No) ∗ (∃ W, owes (c : Thread nD τ) O W))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma
              (((Memref.whole cc0_scratch1 : Memref sig .tc .vmem S32x256x512 .bf16).slice (Rect.unit (s := S32x256x512) offS S1x256x512.size inbS) (fun _ => rfl)).squeeze S256x512 squeezes_S1x256x512_S256x512)
              (.remote (Dev.tc n : Thread nD τ)
                (((Memref.whole cc0_scratch1 : Memref sig .tc .vmem S32x256x512 .bf16).slice (Rect.unit (s := S32x256x512) offD S1x256x512.size inbD) (fun _ => rfl)).squeeze S256x512 squeezes_S1x256x512_S256x512)
                (.dma ((cc0_scratch7.slice (Rect.unit (s := S32) offM S1.size inbM)).squeeze S_ squeezes_S1_S_).sem) hsc)
              (.dma ((cc0_scratch8.slice (Rect.unit (s := S32) offR S1.size inbR)).squeeze S_ squeezes_S1_S_).sem) hsrc hdst hsem) k) Q) := by
  have h1 := sem_woS s.castSucc offM hoM inbM
  have h2 := sem_woR s.succ offR hoR inbR
  subst hn hoS hoD
  revert hsem
  rw [h1, h2]
  intro hsem
  unfold ownO
  iintro ⟨#HR, Hs, Hd, ⟨%W, HO⟩, Ht₁, Ht₂⟩ Hk
  ihave #HI₁ := (inv_at m K (c, some (2, s.castSucc))) $$ HR
  ihave #HI₂ := (inv_at m K (nxt c, some (3, s.succ))) $$ HR
  ihave #Hr₁ := (reached_at m K (c, some (2, s.castSucc))) $$ HR
  ihave #Hr₂ := (reached_at m K (nxt c, some (3, s.succ))) $$ HR
  have hl₁ : live 2 s.castSucc = true := decide_eq_true (show s.castSucc.val < 31 by rw [Fin.val_castSucc]; exact s.isLt)
  have hl₂ : live 3 s.succ = true := decide_eq_true (show 0 < s.succ.val by rw [Fin.val_succ]; omega)
  iapply (Slots.send_slot 𝒱₀ (c : Thread nD τ) none ER (Rd m) (c' := (nxt c : Thread nD τ)) (src := woSlot s.castSucc) (dst := woSlot s.succ)
    (sS := .dma (wsem 2 s.castSucc)) (sem := .dma (wsem 3 s.succ)) (hsc := hsc) (hsrc := hsrc) (hdst := hdst) (hsem := hsem)
    (κ₁ := K (c, some (2, s.castSucc))) (κ₂ := K (nxt c, some (3, s.succ))) (q := fullShare.left) (X := woVal m (back c s.val))
    (r₁ := 0) (r₂ := 0) (d₁ := false) (d₂ := false)
    (by rw [duties_live m c hl₁]; exact Finset.mem_singleton_self _) (by rw [duties_live m (nxt c) hl₂]; exact Finset.mem_singleton_self _)
    () () No rfl (amount_w m c 2 s.castSucc false) (amount_w m (nxt c) 3 s.succ false) O rfl (W := W)
    (by rw [payload_w]; exact BI.Entails.refl _)
    (by rw [payload_w]; show _ ⊢ ownO (nxt c) s.succ fullShare (woVal m (back (nxt c) s.succ.val))
        rw [Fin.val_succ, back_nxt c (by omega)]; exact BI.Entails.refl _)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- Waiting on a transfer cell for its whole round, at the time its device owes what it owes from step `t'` on: the round's
    payload, and the cell, closed, its counter at zero. -/
theorem wait_w (kk : Fin 4) (t : Fin 32) (hl : live kk t = true) (t' : ℕ) (hlv : lv (wcell c kk t) () ≤ t' + 2)
    {sem : DmaSem sig} (hs : sem = wsem kk t) {κ' : Kind} {sp₁ sp₂ : Space} {s₁ s₂ : Shape} {e₁ e₂ : EltTy}
    {srcw : Memref sig .tc sp₁ s₁ e₁} {dstw : Memref sig κ' sp₂ s₂ e₂} (hN : dstw.view.dmaCredit = credit kk)
    {k : PUnit → Prog (TpuEff nD τ sig (Elt F) Λ₀ .tc) β} {hsrc hdst} :
    iprop(records m K ∗ levAts L lv ∗ cred (tallyAt (wcell c kk t) () (credit kk)) ∗ debt c t' ∗ atPos ER (wcell c kk t) 0 ∅ 0)
      ⊢ iprop(((slotPay m c kk t ∗ debt c t' ∗ semVal (wcell c kk t) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  unfold debt
  iintro ⟨#HR, #Hlev, Hc, ⟨%W, HO⟩, Hat⟩ Hk
  ihave #HI := (inv_at m K (c, some (kk, t))) $$ HR
  iapply (Rounds.wp_wait_rest_token 𝒱₀ ER (Rd m) (c : Thread nD τ) none (κ := K (c, some (kk, t)))
      (wpE_waitDma2_eq 𝒱₀ (c : Thread nD τ) none Set.univ) (Set.mem_univ _) () (O := owed c t') (W := W) (R := 0) (m := 0) (T := ∅)
      (by rw [Nat.zero_add, expect_w m c hl]; exact hN)) $$ [Hc HO Hat]
  · isplitr; · iexact HI
    isplitl [Hc]; · rw [hN]; iexact Hc
    isplitl [HO]; · iexact HO
    isplitr; · iapply (mayWait_owed c (.dma (wsem kk t)) t' hlv); iexact Hlev
    iexact Hat
  iintro ⟨HO, Hat, -, Hpay⟩
  ihave Hp := (Entails.of_eq (rest_w m c hl)) $$ Hpay
  imod (Rounds.cell_close ER (Rd m) (Set.mem_univ (K (c, some (kk, t)))) (fun h => h) (R := 0 + 1) (duties_later m (wcell c kk t))) $$ [Hat] with Hz
  · isplitr; · iexact HI
    iexact Hat
  iapply Hk
  isplitl [Hp]; · iexact Hp
  isplitl [HO]; · iexists _; iexact HO
  iexact Hz

end Steps

end Cert.Stream
-- ==== Proof.Vals.lean ====
/-
  The values of the streamed-weights attention kernel: what one trip of its loop stores into each quarter of the
  context buffer, what the whole context then is, and what the output buffer holds after `t` trips.
-/
module

public import proofs.«01_k».proof.Proof.Ring
public import Idealize.ShloMosaic.Lib.Writes
public import Idealize.ShloMosaic.Lib.WritesUnit

@[expose] public section

noncomputable section

namespace Cert.Stream

open Cert.KernelIdeal Cert.KernelIdeal.Gen

open Idealize.ShloMosaic
open Idealize.ShloMosaic.TcCoe

variable {F : FTy → Type} [FloatOps F] [Named F]

variable (m : (ℓ : Loc nD τ sig) → Buf (Elt F) ℓ)

/-- The activations of device `c`, rounded and flattened to 256 rows. -/
def xv (c : Dev nD) : FVec F S256x512 .bf16 := k0_pay14 (xIn m c)

/-- The additive mask the kernel builds once: zero where a query row and a key row lie in the same 64-row block pattern, the
    named constant elsewhere. -/
def bias : FVec F S256x256 .f32 :=
  k0_pay18 (F := F) k0_pay15 (iota .tc S256x256 32 [1] iota_S256x256_d1_w32) 64#32 k0_pay16 k0_pay17
    (Scalar.extui (Scalar.cmpi .sgt 64#32 0#32))

/-- The weight blocks of device `d` as a load of a slot reads them. -/
def wqRow (d : Dev nD) : Vec F S1x512x256 .bf16 := k0_pay11 (wqIn m d)
def woRow (d : Dev nD) : Vec F S1x256x512 .bf16 := k0_pay12 (woIn m d)

/-- What trip `t` of device `c` stores in the quarter `h` of the context buffer: the attention of head `h` of the block of
    device `c - t`. -/
def col (c : Dev nD) (t : ℕ) (h : Fin 4) : Vec F S256x64 .bf16 :=
  match h with
  | 0 => k0_pay4 (xv m c) bias (wqRow m (back c t)) (kRow m c (back c t) 0) (vRow m c (back c t) 0)
  | 1 => k0_pay6 bias (k0_pay5 (xv m c) (wqRow m (back c t))) (kRow m c (back c t) 1) (vRow m c (back c t) 1)
  | 2 => k0_pay9 bias (k0_pay7 (k0_pay3 (xv m c) (wqRow m (back c t)))) (k0_pay8 (kRow m c (back c t) 2))
      (constant S256x256 .f32 0x00000000#32) (vRow m c (back c t) 2)
  | 3 => k0_pay1 (k0_pay10 bias (k0_pay3 (xv m c) (wqRow m (back c t))) (kRow m c (back c t) 3)) (vRow m c (back c t) 3)

/-- The place inside its quarter of an index of the context buffer, and the quarter. -/
def inCol (i : S256x256.Idx) : S256x64.Idx := fun a => match a with
  | 0 => (⟨(i 0).val, (i 0).isLt⟩ : Fin 256)
  | 1 => (⟨(i 1).val % 64, Nat.mod_lt _ (by decide)⟩ : Fin 64)
def quarter (i : S256x256.Idx) : Fin 4 := ⟨(i 1).val / 64, by have : (i 1).val < 256 := (i 1).isLt; omega⟩

/-- Four quarters side by side. -/
def joinCols (w : Fin 4 → Vec F S256x64 .bf16) : Vec F S256x256 .bf16 := fun i => w (quarter i) (inCol i)

/-- The context of trip `t`. -/
def ctx (c : Dev nD) (t : ℕ) : Vec F S256x256 .bf16 := joinCols (col m c t)

/-- The output buffer of device `c` after `t` trips. -/
def acc (c : Dev nD) : ℕ → Vec F S2x128x512 .f32
  | 0 => k0_pay13
  | t + 1 => k0_pay2 (ctx m c t) (woRow m (back c t)) (acc c t)

/-- The context buffer. -/
abbrev ctxRef : Memref sig .tc .vmem S256x256 .bf16 := Memref.whole cc0_scratch4

theorem inb_col (h : Fin 4) : ∀ a, (![0, 64 * h.val] : Fin 2 → ℕ) a + S256x64.size a ≤ S256x256.size a := by
  revert h; decide +kernel

/-- The rectangle of a quarter. -/
abbrev colRect (h : Fin 4) : Rect S256x256 := Rect.unit (s := S256x256) ![0, 64 * h.val] S256x64.size (inb_col h)

omit [FloatOps F] [Named F] in
/-- An index in the newest written quarter reads what was written there, any other what was there before. -/
theorem read_col (w : Vec F S256x64 .bf16) (h : Fin 4) (f : ctxRef.view.ty.Contents (Elt F)) (L : List (View.Piece (Elt F) S256x256 .bf16)) (i : S256x256.Idx) :
    ctxRef.view.read (Elt F) (ctxRef.view.writes (Elt F) f (⟨colRect h, w⟩ :: L)) i
      = if quarter i = h then w (inCol i) else ctxRef.view.read (Elt F) (ctxRef.view.writes (Elt F) f L) i := by
  have hi : (i 1).val < 256 := (i 1).isLt
  have hh := h.isLt
  by_cases hq : quarter i = h
  · rw [if_pos hq]
    refine View.read_writes_cons_unit_of_mem ctxRef.view f (inb_col h) w L i (inCol i) rfl fun a => ?_
    have hv : (i 1).val / 64 = h.val := congrArg Fin.val hq
    match a with
    | 0 => exact (Nat.zero_add _).symm
    | 1 => show (i 1).val = 64 * h.val + (i 1).val % 64; omega
  · rw [if_neg hq]
    refine View.read_writes_cons_unit_of_not_mem ctxRef.view f (inb_col h) w L i rfl 1 ?_
    have hv : ¬ (i 1).val / 64 = h.val := fun h' => hq (Fin.ext h')
    show (i 1).val < 64 * h.val ∨ 64 * h.val + 64 ≤ (i 1).val
    omega

omit [FloatOps F] [Named F] in
/-- After the four quarters are written the buffer reads as the four side by side. -/
theorem read_cols (w : Fin 4 → Vec F S256x64 .bf16) (f : ctxRef.view.ty.Contents (Elt F)) :
    ctxRef.view.read (Elt F) (ctxRef.view.writes (Elt F) f [⟨colRect 3, w 3⟩, ⟨colRect 2, w 2⟩, ⟨colRect 1, w 1⟩, ⟨colRect 0, w 0⟩]) = joinCols w := by
  refine funext fun i => ?_
  rw [read_col, read_col, read_col, read_col]
  unfold joinCols
  generalize hq : quarter i = q
  match q with
  | 0 => rfl
  | 1 => rfl
  | 2 => rfl
  | 3 => rfl

end Cert.Stream
-- ==== Proof.Trip1.lean ====
/-
  The first half of one trip of the loop: the two slots of the step are sent on to the next device, and the copies of the
  next step's key and value heads are issued.
-/
module

public import proofs.«01_k».proof.Proof.Vals

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The places the program computes -/

/-- The set of head slots of step `t`. -/
def par (t : ℕ) : Fin 2 := ⟨t % 2, Nat.mod_lt _ (by decide)⟩

theorem dev3_eq (c : Dev nD) (h : k0_dev3 c < nD) : (⟨k0_dev3 c, h⟩ : Dev nD) = nxt c := Fin.ext (k0_dev3_eq c)
theorem dev4_eq (c : Dev nD) (h : k0_dev4 c < nD) : (⟨k0_dev4 c, h⟩ : Dev nD) = nxt c := Fin.ext (k0_dev4_eq c)

theorem trips_eq : k0_t1_loop.trips = 32 := by decide +kernel
theorem trip_lt (t : Fin k0_t1_loop.trips) : t.val < 32 := lt_of_lt_of_eq t.isLt trips_eq
theorem cond1_iff (t : Fin k0_t1_loop.trips) : k0_cond1 t = 1#1 ↔ t.val < 31 := by revert t; decide +kernel
theorem cond2_iff (t : Fin k0_t1_loop.trips) : k0_cond2 t = 1#1 ↔ t.val < 31 := by revert t; decide +kernel

/-- The head a copy of the next step reads, one of this step, one of the first step. -/
theorem src_next (c : Dev nD) (t : Fin k0_t1_loop.trips) (r : Fin 4) :
    k0_off15 c t (BitVec.ofNat 32 r.val) = ![2 * c.val, 0, 4 * (back c (t.val + 1)).val + r.val, 0] := by
  have h : (back c (t.val + 1)).val = (c.val + 31 - t.val) % 32 := by
    show (c.val + 32 - (t.val + 1)) % 32 = (c.val + 31 - t.val) % 32
    rw [show c.val + 32 - (t.val + 1) = c.val + 31 - t.val by omega]
  rw [k0_off15_eq, h]
theorem src_here (c : Dev nD) (t : Fin k0_t1_loop.trips) (r : Fin 4) :
    k0_off21 c t (BitVec.ofNat 32 r.val) = ![2 * c.val, 0, 4 * (back c t.val).val + r.val, 0] := k0_off21_eq c t r
theorem src_first (c : Dev nD) (r : Fin 4) :
    k0_off3 c (BitVec.ofNat 32 r.val) = ![2 * c.val, 0, 4 * (back c 0).val + r.val, 0] := k0_off3_eq c r

/-! ## The head slots of a set, together -/

/-- A set idle; being filled with the heads of block `g`; filled. -/
def idleAll (c : Dev nD) (p : Fin 2) : sProp 𝕄 :=
  iprop(kIdle m c p 0 ∗ vIdle m c p 0 ∗ kIdle m c p 1 ∗ vIdle m c p 1 ∗ kIdle m c p 2 ∗ vIdle m c p 2 ∗ kIdle m c p 3 ∗ vIdle m c p 3)
def flyAll (c : Dev nD) (p : Fin 2) (g : Dev nD) : sProp 𝕄 :=
  iprop(kFly m c p g 0 ∗ vFly m c p g 0 ∗ kFly m c p g 1 ∗ vFly m c p g 1 ∗ kFly m c p g 2 ∗ vFly m c p g 2 ∗ kFly m c p g 3 ∗ vFly m c p g 3)
def heldAll (c : Dev nD) (p : Fin 2) (g : Dev nD) : sProp 𝕄 :=
  iprop(kHeld m c p g 0 ∗ vHeld m c p g 0 ∗ kHeld m c p g 1 ∗ vHeld m c p g 1 ∗ kHeld m c p g 2 ∗ vHeld m c p g 2 ∗ kHeld m c p g 3 ∗ vHeld m c p g 3)

omit [FloatOps F] [Named F] in
theorem heldAll_idle (c : Dev nD) (p : Fin 2) (g : Dev nD) : heldAll m c p g ⊢ idleAll m c p := by
  unfold heldAll idleAll
  iintro ⟨HK0, HV0, HK1, HV1, HK2, HV2, HK3, HV3⟩
  isplitl [HK0]; · iapply (kHeld_idle m c p g 0); iexact HK0
  isplitl [HV0]; · iapply (vHeld_idle m c p g 0); iexact HV0
  isplitl [HK1]; · iapply (kHeld_idle m c p g 1); iexact HK1
  isplitl [HV1]; · iapply (vHeld_idle m c p g 1); iexact HV1
  isplitl [HK2]; · iapply (kHeld_idle m c p g 2); iexact HK2
  isplitl [HV2]; · iapply (vHeld_idle m c p g 2); iexact HV2
  isplitl [HK3]; · iapply (kHeld_idle m c p g 3); iexact HK3
  iapply (vHeld_idle m c p g 3); iexact HV3

section Parts
variable (K : Dev nD × CI → ℕ) (c : Dev nD) (t : Fin k0_t1_loop.trips)

/-- The duty tokens of step `s`'s two transfers. -/
def toks (c : Dev nD) (s : Fin 31) : sProp 𝕄 :=
  iprop(dutyTok ER (wcell c 0 s.castSucc) 0 false ∗ dutyTok ER (wcell (nxt c) 1 s.succ) 0 false
    ∗ dutyTok ER (wcell c 2 s.castSucc) 0 false ∗ dutyTok ER (wcell (nxt c) 3 s.succ) 0 false)

/-- The two transfers of a step are issued. -/
theorem part1_ok (hlt : t.val < 31) (h1 : k0_cond1 t = 1#1) (v2 v4 arg17 : BitVec 32) {Q : (Σ' (v422 : BitVec 32) (v425 : BitVec 32), BitVec 32) → sProp (MT nD τ sig Unit (Elt F) ℕ UU ℕ)} :
    iprop(records m K ∗ ownQ c ⟨t.val, trip_lt t⟩ fullShare.left (wqVal m (back c t.val)) ∗ ownO c ⟨t.val, trip_lt t⟩ fullShare.left (woVal m (back c t.val)) ∗ anySlots (nxt c) ⟨t.val, hlt⟩ ∗ debt c t.val
        ∗ toks c ⟨t.val, hlt⟩)
      ⊢ iprop((∀ r, (cred (tallyAt (wcell c 0 ⟨t.val, trip_lt t⟩) () Nq) ∗ cred (tallyAt (wcell c 2 ⟨t.val, trip_lt t⟩) () No) ∗ debt c (t.val + 1)) -∗ Q r) -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 t arg17 h1) Q) := by
  rw [k0_part1_eq_skeleton]
  unfold k0_part1_skel
  simp only [Prog.lift, Prog.bind_op, Prog.bind_ret, Prog.pure_eq_ret]
  unfold anySlots toks debt
  iintro ⟨#HR, HQ, HW, ⟨HQd, HWd⟩, ⟨%W, HO⟩, HtQ, HtQ', HtW, HtW'⟩ Hk
  ihave HO := (Entails.of_eq (congrArg (fun O => (owes (c : Thread nD τ) O W : sProp 𝕄)) (owed_step c hlt))) $$ HO
  iapply (send_wq m K c ⟨t.val, hlt⟩ _ (dev3_eq c (k0_dev3_lt c t h1)) (owed c (t.val + 1) + tallyAt (wcell (nxt c) 3 (⟨t.val, hlt⟩ : Fin 31).succ) () No)
    (k0_off10_eq t) (k0_off9_eq t) (k0_off7_eq t) (k0_off8_eq t)) $$ [HQ HQd HO HtQ HtQ']
  · isplitr; · iexact HR
    isplitl [HQ]; · iexact HQ
    isplitl [HQd]; · iexact HQd
    isplitl [HO]; · iexists W; iexact HO
    isplitl [HtQ]; · iexact HtQ
    iexact HtQ'
  iintro ⟨HcQ, HO⟩
  iapply (send_wo m K c ⟨t.val, hlt⟩ _ (dev4_eq c (k0_dev4_lt c t h1)) (owed c (t.val + 1))
    (k0_off12_eq t) (k0_off11_eq t) (k0_off7_eq t) (k0_off8_eq t)) $$ [HW HWd HO HtW HtW']
  · isplitr; · iexact HR
    isplitl [HW]; · iexact HW
    isplitl [HWd]; · iexact HWd
    isplitl [HO]; · iexact HO
    isplitl [HtW]; · iexact HtW
    iexact HtW'
  iintro ⟨HcW, HO⟩
  rw [wp_ret]; imodintro
  ispecialize Hk $$ %_
  iapply Hk
  isplitl [HcQ]; · iexact HcQ
  isplitl [HcW]; · iexact HcW
  iexact HO

theorem part2_ok (h1 : k0_cond1 t = 1#1) (v422 v425 c4 : BitVec 32) {Q : PUnit → sProp (MT nD τ sig Unit (Elt F) ℕ UU ℕ)} :
    Q ⟨⟩ ⊢ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 t h1 v422 v425 c4) Q := by
  rw [k0_part2_eq_skeleton]
  unfold k0_part2_skel
  simp only [Prog.lift, Prog.bind_op, Prog.bind_ret, Prog.pure_eq_ret]
  rw [wp_ret]
  iintro H; imodintro; iexact H

/-- Five of the eight copies of the next step are issued. -/
theorem part3_ok (h1 : k0_cond1 t = 1#1) {Q : PUnit → sProp (MT nD τ sig Unit (Elt F) ℕ UU ℕ)} :
    iprop(kIdle m c (par (t.val + 1)) 0 ∗ vIdle m c (par (t.val + 1)) 0 ∗ kIdle m c (par (t.val + 1)) 1 ∗ vIdle m c (par (t.val + 1)) 1 ∗ kIdle m c (par (t.val + 1)) 2)
      ⊢ iprop(((kFly m c (par (t.val + 1)) (back c (t.val + 1)) 0 ∗ vFly m c (par (t.val + 1)) (back c (t.val + 1)) 0 ∗ kFly m c (par (t.val + 1)) (back c (t.val + 1)) 1 ∗ vFly m c (par (t.val + 1)) (back c (t.val + 1)) 1 ∗ kFly m c (par (t.val + 1)) (back c (t.val + 1)) 2) -∗ Q ⟨⟩) -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c t h1) Q) := by
  rw [k0_part3_eq_skeleton]
  unfold k0_part3_skel
  simp only [Prog.lift, Prog.bind_op, Prog.bind_ret, Prog.pure_eq_ret]
  iintro ⟨HK0, HV0, HK1, HV1, HK2⟩ Hk
  iapply (start_k m c (par (t.val + 1)) (back c (t.val + 1)) 0 (src_next c t 0) (k0_off14_eq t 0) (k0_off13_eq t)) $$ HK0; iintro HK0
  iapply (start_v m c (par (t.val + 1)) (back c (t.val + 1)) 0 (src_next c t 0) (k0_off14_eq t 0) (k0_off13_eq t)) $$ HV0; iintro HV0
  iapply (start_k m c (par (t.val + 1)) (back c (t.val + 1)) 1 (src_next c t 1) (k0_off14_eq t 1) (k0_off16_eq t)) $$ HK1; iintro HK1
  iapply (start_v m c (par (t.val + 1)) (back c (t.val + 1)) 1 (src_next c t 1) (k0_off14_eq t 1) (k0_off16_eq t)) $$ HV1; iintro HV1
  iapply (start_k m c (par (t.val + 1)) (back c (t.val + 1)) 2 (src_next c t 2) (k0_off14_eq t 2) (k0_off17_eq t)) $$ HK2; iintro HK2
  rw [wp_ret]; imodintro
  iapply Hk
  isplitl [HK0]; · iexact HK0
  isplitl [HV0]; · iexact HV0
  isplitl [HK1]; · iexact HK1
  isplitl [HV1]; · iexact HV1
  iexact HK2

end Parts

end Cert.Stream
-- ==== Proof.Trip2.lean ====
/-
  What a step of the ring holds before its transfers, while they are under way, and after they are waited for; and the
  first part of a trip as a whole, at the steps that send and at the last one, which does not.
-/
module

public import proofs.«01_k».proof.Proof.Trip1

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

open Idealize.SL.RA in
omit [FloatOps F] [Named F] in
/-- A slot owned outright is owned by halves; -/
theorem owns_halve {κ : Kind} (c : Thread nD τ) {sp : Space} {s : Shape} {e : EltTy} (r : Memref sig c.2.kind sp s e) (X : s.Idx → Elt F e) :
    (owns c r fullShare X : sProp 𝕄) ⊢ iprop(owns c r fullShare.left X ∗ owns c r fullShare.right X) := by
  rw [Slots.owns_def, Slots.owns_def, Slots.owns_def]
  iintro ⟨%f, %hf, H⟩
  ihave H' := (pointsTo_share (PosShare.mem_left_op_right fullShare)).1 $$ H
  icases H' with ⟨H₁, H₂⟩
  isplitl [H₁]
  · iexists f
    isplitr; · ipureintro; exact hf
    iexact H₁
  · iexists f
    isplitr; · ipureintro; exact hf
    iexact H₂

omit [FloatOps F] [Named F] in
/-- and the halves come together again. -/
theorem owns_unite (c : Thread nD τ) {sp : Space} {s : Shape} {e : EltTy} (r : Memref sig c.2.kind sp s e) (X Y : s.Idx → Elt F e) :
    iprop((owns c r fullShare.left X : sProp 𝕄) ∗ owns c r fullShare.right Y) ⊢ iprop(∃ Z, (owns c r fullShare Z : sProp 𝕄)) := by
  rw [Slots.owns_def, Slots.owns_def]
  iintro ⟨⟨%f, %hf, H₁⟩, ⟨%g, %hg, H₂⟩⟩
  ihave H := (persistent_entails_right pointsTo_agree) $$ [H₁ H₂]
  · isplitl [H₁] <;> iassumption
  icases H with ⟨%h, H₁, H₂⟩
  ihave H₂ := (Entails.of_eq (pointsTo_congr (f := g) (g := f) fun i hi => (h i (Finset.mem_inter.mpr ⟨hi, hi⟩)).1.symm)) $$ H₂
  ihave H := (pointsTo_share (PosShare.mem_left_op_right fullShare)).2 $$ [H₁ H₂]
  · isplitl [H₁] <;> iassumption
  iexists X
  rw [Slots.owns_def]
  iexists f
  isplitr; · ipureintro; exact hf
  iexact H

/-! ## A step of the ring -/

/-- The positions of the four cells of step `s`. -/
def ats (c : Dev nD) (s : Fin 31) : sProp 𝕄 :=
  iprop(atPos ER (wcell c 0 s.castSucc) 0 ∅ 0 ∗ atPos ER (wcell c 1 s.succ) 0 ∅ 0 ∗ atPos ER (wcell c 2 s.castSucc) 0 ∅ 0 ∗ atPos ER (wcell c 3 s.succ) 0 ∅ 0)
/-- What awaits the two transfers into slot `s + 1`. -/
def inCreds (c : Dev nD) (s : Fin 31) : sProp 𝕄 :=
  iprop(cred (tallyAt (wcell c 1 s.succ) () Nq) ∗ cred (tallyAt (wcell c 3 s.succ) () No))
/-- A step not yet taken. -/
def todo (c : Dev nD) (s : Fin 31) : sProp 𝕄 := iprop(anySlots (nxt c) s ∗ toks c s ∗ inCreds c s ∗ ats c s)
/-- A step whose transfers are under way. -/
def waiting (c : Dev nD) (s : Fin 31) : sProp 𝕄 :=
  iprop(cred (tallyAt (wcell c 0 s.castSucc) () Nq) ∗ cred (tallyAt (wcell c 2 s.castSucc) () No) ∗ inCreds c s ∗ ats c s)
/-- The slots of step `t`, at any contents. -/
def spentSlots (c : Dev nD) (t : Fin 32) : sProp 𝕄 := iprop((∃ X, ownQ c t fullShare X) ∗ (∃ X, ownO c t fullShare X))
/-- The four cells of step `s`, closed. -/
def zeros (c : Dev nD) (s : Fin 31) : sProp 𝕄 :=
  iprop(semVal (wcell c 0 s.castSucc) 0 ∗ semVal (wcell c 1 s.succ) 0 ∗ semVal (wcell c 2 s.castSucc) 0 ∗ semVal (wcell c 3 s.succ) 0)
/-- A step that is over. -/
def spent (c : Dev nD) (s : Fin 31) : sProp 𝕄 := iprop(spentSlots c s.castSucc ∗ zeros c s)

/-- The slots of step `t`, holding the weight blocks of the device `t` places before. -/
def slotsAt (c : Dev nD) (t : Fin 32) (q : PosShare TreeShare) : sProp 𝕄 :=
  iprop(ownQ c t q (wqVal m (back c t.val)) ∗ ownO c t q (woVal m (back c t.val)))

theorem slotsAt_spent (c : Dev nD) (t : Fin 32) : slotsAt m c t fullShare ⊢ spentSlots c t := by
  unfold slotsAt spentSlots
  iintro ⟨HQ, HW⟩
  isplitl [HQ]; · iexists _; iexact HQ
  iexists _; iexact HW

theorem slotsAt_halve (c : Dev nD) (t : Fin 32) : slotsAt m c t fullShare ⊢ iprop(slotsAt m c t fullShare.left ∗ slotsAt m c t fullShare.right) := by
  unfold slotsAt ownQ ownO
  iintro ⟨HQ, HW⟩
  ihave HQ := (owns_halve (κ := .tc) (c : Thread nD τ) (wqSlot t) (wqVal m (back c t.val))) $$ HQ
  ihave HW := (owns_halve (κ := .tc) (c : Thread nD τ) (woSlot t) (woVal m (back c t.val))) $$ HW
  icases HQ with ⟨HQ₁, HQ₂⟩
  icases HW with ⟨HW₁, HW₂⟩
  isplitl [HQ₁ HW₁]
  · isplitl [HQ₁] <;> iassumption
  isplitl [HQ₂] <;> iassumption

/-- The share of its slots a device computes with at step `t`: half is lent to the transfers, where there are any. -/
def qAt (t : ℕ) : PosShare TreeShare := if t < 31 then fullShare.right else fullShare
/-- The ring's part of step `t` not yet taken; beside the copies of the next step under way; over, beside the slots of the next step. -/
def todoAt (c : Dev nD) (t : ℕ) : sProp 𝕄 := if h : t < 31 then todo c ⟨t, h⟩ else iprop(emp)
def midAt (c : Dev nD) (t : ℕ) : sProp 𝕄 :=
  if h : t < 31 then iprop(flyAll m c (par (t + 1)) (back c (t + 1)) ∗ waiting c ⟨t, h⟩) else idleAll m c (par (t + 1))
def overAt (c : Dev nD) (t : ℕ) : sProp 𝕄 :=
  if h : t < 31 then iprop(flyAll m c (par (t + 1)) (back c (t + 1)) ∗ slotsAt m c (⟨t, h⟩ : Fin 31).succ fullShare ∗ spent c ⟨t, h⟩)
  else iprop(idleAll m c (par (t + 1)) ∗ spentSlots c 31)

section Parts
variable (K : Dev nD × CI → ℕ) (c : Dev nD) (t : Fin k0_t1_loop.trips)

/-- The first part of a trip: from step `t` not yet taken to its transfers, and the next step's copies, under way. -/
theorem part5_ok (v2 v4 : BitVec 32) {Q : (Σ' (arg17 : BitVec 32) (v171 : BitVec 32) (v175 : BitVec 32), BitVec 32) → sProp (MT nD τ sig Unit (Elt F) ℕ UU ℕ)} :
    iprop(records m K ∗ slotsAt m c ⟨t.val, trip_lt t⟩ fullShare ∗ debt c t.val ∗ idleAll m c (par (t.val + 1)) ∗ todoAt c t.val)
      ⊢ iprop((∀ r, (slotsAt m c ⟨t.val, trip_lt t⟩ (qAt t.val) ∗ debt c (t.val + 1) ∗ midAt m c t.val) -∗ Q r) -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 0#32 1#32 t) Q) := by
  rw [k0_part5_eq_skeleton]
  unfold k0_part5_skel todoAt midAt qAt
  by_cases hlt : t.val < 31
  · have h1 : k0_cond1 t = 1#1 := (cond1_iff t).mpr hlt
    simp only [dif_pos h1, dif_pos hlt, if_pos hlt]
    simp only [wp_bind]
    unfold todo idleAll
    iintro ⟨#HR, HS, HO, ⟨HK0, HV0, HK1, HV1, HK2, HV2, HK3, HV3⟩, Hd, Ht, Hc, Ha⟩ Hk
    ihave HS := (slotsAt_halve m c ⟨t.val, trip_lt t⟩) $$ HS
    icases HS with ⟨HSl, HSr⟩
    ihave HSl := (Entails.of_eq (show (slotsAt m c ⟨t.val, trip_lt t⟩ fullShare.left : sProp 𝕄) = iprop(ownQ c ⟨t.val, trip_lt t⟩ fullShare.left (wqVal m (back c t.val)) ∗ ownO c ⟨t.val, trip_lt t⟩ fullShare.left (woVal m (back c t.val))) from rfl)) $$ HSl
    icases HSl with ⟨HQl, HWl⟩
    iapply (part1_ok m K c t hlt h1 v2 v4 _) $$ [HQl HWl Hd HO Ht]
    · isplitr; · iexact HR
      isplitl [HQl]; · iexact HQl
      isplitl [HWl]; · iexact HWl
      isplitl [Hd]; · iexact Hd
      isplitl [HO]; · iexact HO
      iexact Ht
    iintro %r ⟨HcQ, HcW, HO⟩
    iapply (part2_ok c t h1 r.1 r.2.1 r.2.2)
    iapply (part3_ok m c t h1) $$ [HK0 HV0 HK1 HV1 HK2]
    · isplitl [HK0]; · iexact HK0
      isplitl [HV0]; · iexact HV0
      isplitl [HK1]; · iexact HK1
      isplitl [HV1]; · iexact HV1
      iexact HK2
    iintro ⟨HK0, HV0, HK1, HV1, HK2⟩
    simp only [Prog.lift, Prog.bind_op, Prog.bind_ret, Prog.pure_eq_ret]
    iapply (start_v m c (par (t.val + 1)) (back c (t.val + 1)) 2 (src_next c t 2) (k0_off14_eq t 2) (k0_off17_eq t)) $$ HV2; iintro HV2
    rw [wp_ret]; imodintro
    iapply (start_k m c (par (t.val + 1)) (back c (t.val + 1)) 3 (src_next c t 3) (k0_off14_eq t 3) (k0_off18_eq t)) $$ HK3; iintro HK3
    rw [wp_ret]; imodintro
    iapply (start_v m c (par (t.val + 1)) (back c (t.val + 1)) 3 (src_next c t 3) (k0_off14_eq t 3) (k0_off18_eq t)) $$ HV3; iintro HV3
    rw [wp_ret]; imodintro
    rw [wp_ret]; imodintro
    ispecialize Hk $$ %_
    iapply Hk
    isplitl [HSr]; · iexact HSr
    isplitl [HO]; · iexact HO
    isplitr [HcQ HcW Hc Ha]
    · unfold flyAll
      isplitl [HK0]; · iexact HK0
      isplitl [HV0]; · iexact HV0
      isplitl [HK1]; · iexact HK1
      isplitl [HV1]; · iexact HV1
      isplitl [HK2]; · iexact HK2
      isplitl [HV2]; · iexact HV2
      isplitl [HK3]; · iexact HK3
      iexact HV3
    · unfold waiting
      isplitl [HcQ]; · iexact HcQ
      isplitl [HcW]; · iexact HcW
      isplitl [Hc]; · iexact Hc
      iexact Ha
  · have h1 : ¬ k0_cond1 t = 1#1 := fun h => hlt ((cond1_iff t).mp h)
    simp only [dif_neg h1, dif_neg hlt, if_neg hlt]
    simp only [Prog.lift, Prog.bind_op, Prog.bind_ret, Prog.pure_eq_ret]
    iintro ⟨#HR, HS, HO, HI, -⟩ Hk
    rw [wp_ret]; imodintro
    ispecialize Hk $$ %_
    iapply Hk
    isplitl [HS]; · iexact HS
    isplitl [HO]
    · unfold debt
      rw [owed_last c (by omega : 31 ≤ t.val), owed_last c (by omega : 31 ≤ t.val + 1)]
      iexact HO
    iexact HI

end Parts

end Cert.Stream
-- ==== Proof.Trip3.lean ====
/-
  The second half of a trip: the copies of the step's heads are waited for, each head's attention is stored in its
  quarter of the context buffer, the context times the output weights is added to the output.
-/
module

public import proofs.«01_k».proof.Proof.Trip2

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The context buffer and the slots of weights -/

/-- The context buffer after the stores `L` over some contents. -/
def ctxAt (c : Dev nD) (L : List (View.Piece (Elt F) S256x256 .bf16)) : sProp 𝕄 :=
  iprop(∃ f, (ctxRef.view.loc (c : Thread nD τ)) ↦{fullShare} ctxRef.view.writes (Elt F) f L)

section Ops
variable (c : Dev nD) {β : Type} {Q : β → sProp (MT nD τ sig Unit (Elt F) ℕ UU ℕ)}

/-- A load of a quarter whose value is not used. -/
theorem load_ctx (L : List (View.Piece (Elt F) S256x256 .bf16)) (r : Rect S256x256)
    {k : (r.shape.Idx → Elt F .bf16) → Prog (TpuEff nD τ sig (Elt F) Λ₀ .tc) β} {hl} (k' : Prog (TpuEff nD τ sig (Elt F) Λ₀ .tc) β) (hk : ∀ v, k v = k') :
    ctxAt c L ⊢ iprop((ctxAt c L -∗ wp frame (wpE (defs₀ (F := F)) 𝒱₀ (c : Thread nD τ) none) Set.univ (k') Q) -∗ wp frame (wpE (defs₀ (F := F)) 𝒱₀ (c : Thread nD τ) none) Set.univ (.op (.load ctxRef r.toLoadRect hl) k) Q) := by
  unfold ctxAt
  iintro ⟨%f, H⟩ Hk
  iapply (wp_load_rect 𝒱₀ (c : Thread nD τ) none Set.univ (m := ctxRef) (r := r) (Finset.subset_univ _)) $$ H
  iintro H
  rw [hk]
  iapply Hk
  iexists f; iexact H

/-- A store of a quarter. -/
theorem store_ctx (L : List (View.Piece (Elt F) S256x256 .bf16)) (h : Fin 4) (w : Vec F S256x64 .bf16) {off : Fin 2 → ℕ} (ho : off = ![0, 64 * h.val])
    {inb : ∀ a, off a + S256x64.size a ≤ S256x256.size a} {k : PUnit → Prog (TpuEff nD τ sig (Elt F) Λ₀ .tc) β} {hx hm} :
    ctxAt c L ⊢ iprop((ctxAt c (⟨colRect h, w⟩ :: L) -∗ wp frame (wpE (defs₀ (F := F)) 𝒱₀ (c : Thread nD τ) none) Set.univ (k ⟨⟩) Q) -∗ wp frame (wpE (defs₀ (F := F)) 𝒱₀ (c : Thread nD τ) none) Set.univ (.op (.store ctxRef (Rect.unit (s := S256x256) off S256x64.size inb) w Finset.univ hx hm) k) Q) := by
  subst ho
  unfold ctxAt
  iintro ⟨%f, H⟩ Hk
  iapply (wp_store_writes 𝒱₀ (c : Thread nD τ) none Set.univ (m := ctxRef) (r := colRect h) (w := w) (L := L) (f := f) (hx := hx) (hm := hm) (Finset.subset_univ _)) $$ H
  iintro H
  iapply Hk
  iexists f; iexact H

/-- The load of the whole context buffer after the four stores. -/
theorem load_ctx_whole (w : Fin 4 → Vec F S256x64 .bf16)
    {k : Vec F S256x256 .bf16 → Prog (TpuEff nD τ sig (Elt F) Λ₀ .tc) β} {hl} :
    ctxAt c [⟨colRect 3, w 3⟩, ⟨colRect 2, w 2⟩, ⟨colRect 1, w 1⟩, ⟨colRect 0, w 0⟩]
      ⊢ iprop((ctxAt (F := F) c [] -∗ wp frame (wpE (defs₀ (F := F)) 𝒱₀ (c : Thread nD τ) none) Set.univ (k (joinCols w)) Q) -∗ wp frame (wpE (defs₀ (F := F)) 𝒱₀ (c : Thread nD τ) none) Set.univ (.op (.load ctxRef (Rect.unit (s := S256x256) ![0, 0] S256x256.size inb_S256x256_S256x256_0_0).toLoadRect hl) k) Q) := by
  unfold ctxAt
  iintro ⟨%f, H⟩ Hk
  iapply (wp_load 𝒱₀ (c : Thread nD τ) none Set.univ (m := ctxRef) (Finset.subset_univ _)) $$ H
  iintro H
  have hv : ctxRef.view.readAt (Elt F) (Rect.unit (s := S256x256) ![0, 0] S256x256.size inb_S256x256_S256x256_0_0).toLoadRect
      (ctxRef.view.writes (Elt F) f [⟨colRect 3, w 3⟩, ⟨colRect 2, w 2⟩, ⟨colRect 1, w 1⟩, ⟨colRect 0, w 0⟩]) = joinCols w := by
    rw [← read_cols w f]
    exact Memref.readAt_unit_zero (Elt F) cc0_scratch4 (funext fun a => by match a with | 0 => rfl | 1 => rfl) _ _
  rw [hv]
  iapply Hk
  iexists _; iexact H

/-- The load of the step's query weights, and of its output weights. -/
theorem load_wq (t : Fin 32) (q : PosShare TreeShare) {off : Fin 3 → ℕ} (ho : off = ![t.val, 0, 0])
    {inb : ∀ a, off a + S1x512x256.size a ≤ S32x512x256.size a}
    {k : Vec F S1x512x256 .bf16 → Prog (TpuEff nD τ sig (Elt F) Λ₀ .tc) β} {hl} :
    slotsAt m c t q ⊢ iprop((slotsAt m c t q -∗ wp frame (wpE (defs₀ (F := F)) 𝒱₀ (c : Thread nD τ) none) Set.univ (k (wqRow m (back c t.val))) Q) -∗ wp frame (wpE (defs₀ (F := F)) 𝒱₀ (c : Thread nD τ) none) Set.univ (.op (.load (Memref.whole cc0_scratch0 : Memref sig .tc .vmem S32x512x256 .bf16) (Rect.unit (s := S32x512x256) off S1x512x256.size inb).toLoadRect hl) k) Q) := by
  subst ho
  unfold slotsAt ownQ
  iintro ⟨HQ, HW⟩ Hk
  iapply (Slots.load_slot 𝒱₀ (c : Thread nD τ) none (Rect.unit (s := S32x512x256) ![t.val, 0, 0] S1x512x256.size (inb_wq t)) (fun _ => rfl)
    squeezes_S1x512x256_S512x256 (sl := wqSlot t) rfl (wqRow m (back c t.val))) $$ [HQ]
  · iexact HQ
  iintro HQ
  iapply Hk
  isplitl [HQ]; · iexact HQ
  iexact HW
theorem load_wo (t : Fin 32) (q : PosShare TreeShare) {off : Fin 3 → ℕ} (ho : off = ![t.val, 0, 0])
    {inb : ∀ a, off a + S1x256x512.size a ≤ S32x256x512.size a}
    {k : Vec F S1x256x512 .bf16 → Prog (TpuEff nD τ sig (Elt F) Λ₀ .tc) β} {hl} :
    slotsAt m c t q ⊢ iprop((slotsAt m c t q -∗ wp frame (wpE (defs₀ (F := F)) 𝒱₀ (c : Thread nD τ) none) Set.univ (k (woRow m (back c t.val))) Q) -∗ wp frame (wpE (defs₀ (F := F)) 𝒱₀ (c : Thread nD τ) none) Set.univ (.op (.load (Memref.whole cc0_scratch1 : Memref sig .tc .vmem S32x256x512 .bf16) (Rect.unit (s := S32x256x512) off S1x256x512.size inb).toLoadRect hl) k) Q) := by
  subst ho
  unfold slotsAt ownO
  iintro ⟨HQ, HW⟩ Hk
  iapply (Slots.load_slot 𝒱₀ (c : Thread nD τ) none (Rect.unit (s := S32x256x512) ![t.val, 0, 0] S1x256x512.size (inb_wo t)) (fun _ => rfl)
    squeezes_S1x256x512_S256x512 (sl := woSlot t) rfl (woRow m (back c t.val))) $$ [HW]
  · iexact HW
  iintro HW
  iapply Hk
  isplitl [HQ]; · iexact HQ
  iexact HW

end Ops

section Parts
variable (c : Dev nD) (t : Fin k0_t1_loop.trips)

/-- Waiting for three of the step's eight copies. -/
theorem part6_ok (v175 v178 : BitVec 32) {Q : PUnit → sProp (MT nD τ sig Unit (Elt F) ℕ UU ℕ)} :
    iprop(levAts L lv ∗ debt c (t.val + 1) ∗ kFly m c (par t.val) (back c t.val) 0 ∗ vFly m c (par t.val) (back c t.val) 0 ∗ kFly m c (par t.val) (back c t.val) 1)
      ⊢ iprop(((debt c (t.val + 1) ∗ kHeld m c (par t.val) (back c t.val) 0 ∗ vHeld m c (par t.val) (back c t.val) 0 ∗ kHeld m c (par t.val) (back c t.val) 1) -∗ Q ⟨⟩) -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c t v175 v178) Q) := by
  rw [k0_part6_eq_skeleton]
  unfold k0_part6_skel
  simp only [Prog.lift, Prog.bind_op, Prog.bind_ret, Prog.pure_eq_ret]
  iintro ⟨#Hlev, HO, HK0, HV0, HK1⟩ Hk
  iapply (wait_k m c (par t.val) (back c t.val) 0 (src_here c t 0) (k0_off20_eq t 0) (k0_off19_eq t) (t.val + 1)) $$ [HK0 HO]
  · isplitr; · iexact Hlev
    isplitl [HK0]; · iexact HK0
    iexact HO
  iintro ⟨HK0, HO⟩
  iapply (wait_v m c (par t.val) (back c t.val) 0 (src_here c t 0) (k0_off20_eq t 0) (k0_off19_eq t) (t.val + 1)) $$ [HV0 HO]
  · isplitr; · iexact Hlev
    isplitl [HV0]; · iexact HV0
    iexact HO
  iintro ⟨HV0, HO⟩
  iapply (wait_k m c (par t.val) (back c t.val) 1 (src_here c t 1) (k0_off20_eq t 1) (k0_off22_eq t) (t.val + 1)) $$ [HK1 HO]
  · isplitr; · iexact Hlev
    isplitl [HK1]; · iexact HK1
    iexact HO
  iintro ⟨HK1, HO⟩
  rw [wp_ret]; imodintro
  iapply Hk
  isplitl [HO]; · iexact HO
  isplitl [HK0]; · iexact HK0
  isplitl [HV0]; · iexact HV0
  iexact HK1

/-- Waiting for four of the step's eight copies. -/
theorem part7_ok {Q : PUnit → sProp (MT nD τ sig Unit (Elt F) ℕ UU ℕ)} :
    iprop(levAts L lv ∗ debt c (t.val + 1) ∗ vFly m c (par t.val) (back c t.val) 1 ∗ kFly m c (par t.val) (back c t.val) 2 ∗ vFly m c (par t.val) (back c t.val) 2 ∗ kFly m c (par t.val) (back c t.val) 3)
      ⊢ iprop(((debt c (t.val + 1) ∗ vHeld m c (par t.val) (back c t.val) 1 ∗ kHeld m c (par t.val) (back c t.val) 2 ∗ vHeld m c (par t.val) (back c t.val) 2 ∗ kHeld m c (par t.val) (back c t.val) 3) -∗ Q ⟨⟩) -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c t) Q) := by
  rw [k0_part7_eq_skeleton]
  unfold k0_part7_skel
  simp only [Prog.lift, Prog.bind_op, Prog.bind_ret, Prog.pure_eq_ret]
  iintro ⟨#Hlev, HO, HV1, HK2, HV2, HK3⟩ Hk
  iapply (wait_v m c (par t.val) (back c t.val) 1 (src_here c t 1) (k0_off20_eq t 1) (k0_off22_eq t) (t.val + 1)) $$ [HV1 HO]
  · isplitr; · iexact Hlev
    isplitl [HV1]; · iexact HV1
    iexact HO
  iintro ⟨HV1, HO⟩
  iapply (wait_k m c (par t.val) (back c t.val) 2 (src_here c t 2) (k0_off20_eq t 2) (k0_off23_eq t) (t.val + 1)) $$ [HK2 HO]
  · isplitr; · iexact Hlev
    isplitl [HK2]; · iexact HK2
    iexact HO
  iintro ⟨HK2, HO⟩
  iapply (wait_v m c (par t.val) (back c t.val) 2 (src_here c t 2) (k0_off20_eq t 2) (k0_off23_eq t) (t.val + 1)) $$ [HV2 HO]
  · isplitr; · iexact Hlev
    isplitl [HV2]; · iexact HV2
    iexact HO
  iintro ⟨HV2, HO⟩
  iapply (wait_k m c (par t.val) (back c t.val) 3 (src_here c t 3) (k0_off20_eq t 3) (k0_off24_eq t) (t.val + 1)) $$ [HK3 HO]
  · isplitr; · iexact Hlev
    isplitl [HK3]; · iexact HK3
    iexact HO
  iintro ⟨HK3, HO⟩
  rw [wp_ret]; imodintro
  iapply Hk
  isplitl [HO]; · iexact HO
  isplitl [HV1]; · iexact HV1
  isplitl [HK2]; · iexact HK2
  isplitl [HV2]; · iexact HV2
  iexact HK3

/-- Waiting for the last copy, and the first head. -/
theorem part8_ok (q : PosShare TreeShare) (arg17 v171 : BitVec 32) {Q : (Σ' (v263 : FVec F S256x256 .bf16), FVec F S256x64 .bf16) → sProp (MT nD τ sig Unit (Elt F) ℕ UU ℕ)} :
    iprop(levAts L lv ∗ debt c (t.val + 1) ∗ vFly m c (par t.val) (back c t.val) 3 ∗ slotsAt m c ⟨t.val, trip_lt t⟩ q ∗ kHeld m c (par t.val) (back c t.val) 0 ∗ vHeld m c (par t.val) (back c t.val) 0 ∗ ctxAt (F := F) c [])
      ⊢ iprop(((debt c (t.val + 1) ∗ vHeld m c (par t.val) (back c t.val) 3 ∗ slotsAt m c ⟨t.val, trip_lt t⟩ q ∗ kHeld m c (par t.val) (back c t.val) 0 ∗ vHeld m c (par t.val) (back c t.val) 0 ∗ ctxAt c [⟨colRect 0, col m c t.val 0⟩]) -∗ Q ⟨(k0_pay3 (xv m c) (wqRow m (back c t.val))), k0_pay5 (xv m c) (wqRow m (back c t.val))⟩) -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c (xv m c) bias t arg17 v171) Q) := by
  rw [k0_part8_eq_skeleton]
  unfold k0_part8_skel
  simp only [Prog.lift, Prog.bind_op, Prog.bind_ret, Prog.pure_eq_ret]
  iintro ⟨#Hlev, HO, HV3, HS, HK0, HV0, HC⟩ Hk
  iapply (wait_v m c (par t.val) (back c t.val) 3 (src_here c t 3) (k0_off20_eq t 3) (k0_off24_eq t) (t.val + 1)) $$ [HV3 HO]
  · isplitr; · iexact Hlev
    isplitl [HV3]; · iexact HV3
    iexact HO
  iintro ⟨HV3, HO⟩
  iapply (load_wq m c ⟨t.val, trip_lt t⟩ q (k0_off25_eq t)) $$ HS; iintro HS
  iapply (load_k m c (par t.val) (back c t.val) 0 (k0_off26_eq t 0)) $$ HK0; iintro HK0
  iapply (load_v m c (par t.val) (back c t.val) 0 (k0_off26_eq t 0)) $$ HV0; iintro HV0
  iapply (load_ctx c [] _ _ (fun _ => rfl)) $$ HC; iintro HC
  iapply (store_ctx c [] 0 (col m c t.val 0) rfl) $$ HC; iintro HC
  rw [wp_ret]; imodintro
  iapply Hk
  isplitl [HO]; · iexact HO
  isplitl [HV3]; · iexact HV3
  isplitl [HS]; · iexact HS
  isplitl [HK0]; · iexact HK0
  isplitl [HV0]; · iexact HV0
  iexact HC

/-- The second head. -/
theorem part9_ok (v171 : BitVec 32) {Q : (Σ' (v324 : FVec F S256x64 .bf16) (v331 : FVec F S256x64 .bf16), FVec F S256x256 .f32) → sProp (MT nD τ sig Unit (Elt F) ℕ UU ℕ)} :
    iprop(kHeld m c (par t.val) (back c t.val) 1 ∗ vHeld m c (par t.val) (back c t.val) 1 ∗ kHeld m c (par t.val) (back c t.val) 2 ∗ ctxAt c [⟨colRect 0, col m c t.val 0⟩])
      ⊢ iprop(((kHeld m c (par t.val) (back c t.val) 1 ∗ vHeld m c (par t.val) (back c t.val) 1 ∗ kHeld m c (par t.val) (back c t.val) 2 ∗ ctxAt c [⟨colRect 1, col m c t.val 1⟩, ⟨colRect 0, col m c t.val 0⟩]) -∗ Q ⟨k0_pay7 (k0_pay3 (xv m c) (wqRow m (back c t.val))), k0_pay8 (kRow m c (back c t.val) 2), constant S256x256 .f32 0x00000000#32⟩) -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 bias t v171 (k0_pay3 (xv m c) (wqRow m (back c t.val))) (k0_pay5 (xv m c) (wqRow m (back c t.val)))) Q) := by
  rw [k0_part9_eq_skeleton]
  unfold k0_part9_skel
  simp only [Prog.lift, Prog.bind_op, Prog.bind_ret, Prog.pure_eq_ret]
  iintro ⟨HK1, HV1, HK2, HC⟩ Hk
  iapply (load_k m c (par t.val) (back c t.val) 1 (k0_off26_eq t 1)) $$ HK1; iintro HK1
  iapply (load_v m c (par t.val) (back c t.val) 1 (k0_off26_eq t 1)) $$ HV1; iintro HV1
  iapply (load_ctx c [⟨colRect 0, col m c t.val 0⟩] _ _ (fun _ => rfl)) $$ HC; iintro HC
  iapply (store_ctx c [⟨colRect 0, col m c t.val 0⟩] 1 (col m c t.val 1) rfl) $$ HC; iintro HC
  iapply (load_k m c (par t.val) (back c t.val) 2 (k0_off26_eq t 2)) $$ HK2; iintro HK2
  rw [wp_ret]; imodintro
  iapply Hk
  isplitl [HK1]; · iexact HK1
  isplitl [HV1]; · iexact HV1
  isplitl [HK2]; · iexact HK2
  iexact HC

/-- The third head. -/
theorem part10_ok (v171 : BitVec 32) {Q : (Σ' (v370 : FVec F S256x256 .f32), BitVec 32) → sProp (MT nD τ sig Unit (Elt F) ℕ UU ℕ)} :
    iprop(vHeld m c (par t.val) (back c t.val) 2 ∗ kHeld m c (par t.val) (back c t.val) 3 ∗ ctxAt c [⟨colRect 1, col m c t.val 1⟩, ⟨colRect 0, col m c t.val 0⟩])
      ⊢ iprop(((vHeld m c (par t.val) (back c t.val) 2 ∗ kHeld m c (par t.val) (back c t.val) 3 ∗ ctxAt c [⟨colRect 2, col m c t.val 2⟩, ⟨colRect 1, col m c t.val 1⟩, ⟨colRect 0, col m c t.val 0⟩]) -∗ ∀ x, Q ⟨k0_pay10 bias (k0_pay3 (xv m c) (wqRow m (back c t.val))) (kRow m c (back c t.val) 3), x⟩) -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 bias t v171 (k0_pay3 (xv m c) (wqRow m (back c t.val))) (k0_pay7 (k0_pay3 (xv m c) (wqRow m (back c t.val)))) (k0_pay8 (kRow m c (back c t.val) 2)) (constant S256x256 .f32 0x00000000#32)) Q) := by
  rw [k0_part10_eq_skeleton]
  unfold k0_part10_skel
  simp only [Prog.lift, Prog.bind_op, Prog.bind_ret, Prog.pure_eq_ret]
  iintro ⟨HV2, HK3, HC⟩ Hk
  iapply (load_v m c (par t.val) (back c t.val) 2 (k0_off26_eq t 2)) $$ HV2; iintro HV2
  iapply (load_ctx c [⟨colRect 1, col m c t.val 1⟩, ⟨colRect 0, col m c t.val 0⟩] _ _ (fun _ => rfl)) $$ HC; iintro HC
  iapply (store_ctx c [⟨colRect 1, col m c t.val 1⟩, ⟨colRect 0, col m c t.val 0⟩] 2 (col m c t.val 2) rfl) $$ HC; iintro HC
  iapply (load_k m c (par t.val) (back c t.val) 3 (k0_off26_eq t 3)) $$ HK3; iintro HK3
  rw [wp_ret]; imodintro
  ihave Hk := Hk $$ [HV2 HK3 HC]
  · isplitl [HV2]; · iexact HV2
    isplitl [HK3]; · iexact HK3
    iexact HC
  ispecialize Hk $$ %_
  iexact Hk

end Parts

end Cert.Stream
-- ==== Proof.Trip4.lean ====
/-
  One whole trip of the loop: from the slots of step `t` filled and its heads on their way, to those of step `t + 1`; the
  output buffer gains the step's contribution.
-/
module

public import proofs.«01_k».proof.Proof.Trip3

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The output buffer of device `c` at contents `X`. -/
def outAt (c : Dev nD) (X : Vec F S2x128x512 .f32) : sProp 𝕄 := iprop(((c : Thread nD τ).loc cc0_stg3_0) ↦{fullShare} (X : Buf (Elt F) ((c : Thread nD τ).loc cc0_stg3_0)))

theorem zero3 : (![0, 0, 0] : Fin 3 → ℕ) = fun _ => 0 := funext fun a => by
  match a with
  | 0 => rfl
  | 1 => rfl
  | 2 => rfl

section Ops
variable (c : Dev nD) {β : Type} {Q : β → sProp (MT nD τ sig Unit (Elt F) ℕ UU ℕ)}

/-- A load of the whole output buffer, and a store of the whole of it. -/
theorem load_out (X : Vec F S2x128x512 .f32) {k : Vec F S2x128x512 .f32 → Prog (TpuEff nD τ sig (Elt F) Λ₀ .tc) β} {hl} :
    outAt c X ⊢ iprop((outAt c X -∗ wp frame (wpE (defs₀ (F := F)) 𝒱₀ (c : Thread nD τ) none) Set.univ (k X) Q) -∗ wp frame (wpE (defs₀ (F := F)) 𝒱₀ (c : Thread nD τ) none) Set.univ (.op (.load (Memref.whole cc0_stg3_0 : Memref sig .tc .vmem S2x128x512 .f32) (Rect.unit (s := S2x128x512) ![0, 0, 0] S2x128x512.size inb_S2x128x512_S2x128x512_0_0_0).toLoadRect hl) k) Q) := by
  unfold outAt
  iintro H Hk
  iapply (wp_load 𝒱₀ (c : Thread nD τ) none Set.univ (m := (Memref.whole cc0_stg3_0 : Memref sig .tc .vmem S2x128x512 .f32)) (Finset.subset_univ _)) $$ H
  iintro H
  have hv : (Memref.whole cc0_stg3_0 : Memref sig .tc .vmem S2x128x512 .f32).view.readAt (Elt F) (Rect.unit (s := S2x128x512) ![0, 0, 0] S2x128x512.size inb_S2x128x512_S2x128x512_0_0_0).toLoadRect X = X :=
    Memref.readAt_unit_zero (Elt F) cc0_stg3_0 zero3 _ X
  rw [hv]
  iapply Hk
  iexact H
theorem store_out (X w : Vec F S2x128x512 .f32) {k : PUnit → Prog (TpuEff nD τ sig (Elt F) Λ₀ .tc) β} {hx hm} :
    outAt c X ⊢ iprop((outAt c w -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_stg3_0 : Memref sig .tc .vmem S2x128x512 .f32) (Rect.unit (s := S2x128x512) ![0, 0, 0] S2x128x512.size inb_S2x128x512_S2x128x512_0_0_0) w Finset.univ hx hm) k) Q) := by
  unfold outAt
  iintro H Hk
  iapply (wp_store 𝒱₀ (c : Thread nD τ) none Set.univ (m := (Memref.whole cc0_stg3_0 : Memref sig .tc .vmem S2x128x512 .f32)) (r := Rect.unit (s := S2x128x512) ![0, 0, 0] S2x128x512.size inb_S2x128x512_S2x128x512_0_0_0) (Mk := Finset.univ) (Finset.subset_univ _)) $$ H
  iintro H
  have hv : ((Memref.whole cc0_stg3_0 : Memref sig .tc .vmem S2x128x512 .f32).access (Rect.unit (s := S2x128x512) ![0, 0, 0] S2x128x512.size inb_S2x128x512_S2x128x512_0_0_0)).write (Elt F) X w Finset.univ = w :=
    Memref.write_access_unit_zero_univ (Elt F) cc0_stg3_0 zero3 _ X w
  rw [hv]
  iapply Hk
  iexact H
/-- `wait_w` for a slot of `Wq`, whichever its memrefs. -/
theorem wait_q (m : (ℓ : Loc nD τ sig) → Buf (Elt F) ℓ) (K : Dev nD × CI → ℕ) (kk : Fin 4) (hk : credit kk = Nq) (t : Fin 32) (hl : live kk t = true) (t' : ℕ) (hlv : lv (wcell c kk t) () ≤ t' + 2)
    {sem : DmaSem sig} (hs : sem = wsem kk t) {srcw dstw : Memref sig .tc .vmem S512x256 .bf16}
    {k : PUnit → Prog (TpuEff nD τ sig (Elt F) Λ₀ .tc) β} {hsrc hdst} :
    iprop(records m K ∗ levAts L lv ∗ cred (tallyAt (wcell c kk t) () Nq) ∗ debt c t' ∗ atPos ER (wcell c kk t) 0 ∅ 0)
      ⊢ iprop(((slotPay m c kk t ∗ debt c t' ∗ semVal (wcell c kk t) 0) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem srcw dstw hsrc hdst) k) Q) := by
  rw [← hk]; exact wait_w m K c kk t hl t' hlv hs (hk ▸ rfl)
/-- `wait_w` for a slot of `Wo`, whichever its memrefs. -/
theorem wait_o (m : (ℓ : Loc nD τ sig) → Buf (Elt F) ℓ) (K : Dev nD × CI → ℕ) (kk : Fin 4) (hk : credit kk = No) (t : Fin 32) (hl : live kk t = true) (t' : ℕ) (hlv : lv (wcell c kk t) () ≤ t' + 2)
    {sem : DmaSem sig} (hs : sem = wsem kk t) {srcw dstw : Memref sig .tc .vmem S256x512 .bf16}
    {k : PUnit → Prog (TpuEff nD τ sig (Elt F) Λ₀ .tc) β} {hsrc hdst} :
    iprop(records m K ∗ levAts L lv ∗ cred (tallyAt (wcell c kk t) () No) ∗ debt c t' ∗ atPos ER (wcell c kk t) 0 ∅ 0)
      ⊢ iprop(((slotPay m c kk t ∗ debt c t' ∗ semVal (wcell c kk t) 0) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem srcw dstw hsrc hdst) k) Q) := by
  rw [← hk]; exact wait_w m K c kk t hl t' hlv hs (hk ▸ rfl)
end Ops

section Parts
variable (K : Dev nD × CI → ℕ) (c : Dev nD) (t : Fin k0_t1_loop.trips)

/-- Three of the four waits that end a step. -/
theorem part4_ok (hlt : t.val < 31) (h2 : k0_cond2 t = 1#1) (v4 arg17 : BitVec 32) {Q : PUnit → sProp (MT nD τ sig Unit (Elt F) ℕ UU ℕ)} :
    iprop(records m K ∗ levAts L lv ∗ debt c (t.val + 1)
        ∗ cred (tallyAt (wcell c 0 (⟨t.val, hlt⟩ : Fin 31).castSucc) () Nq) ∗ atPos ER (wcell c 0 (⟨t.val, hlt⟩ : Fin 31).castSucc) 0 ∅ 0
        ∗ cred (tallyAt (wcell c 1 (⟨t.val, hlt⟩ : Fin 31).succ) () Nq) ∗ atPos ER (wcell c 1 (⟨t.val, hlt⟩ : Fin 31).succ) 0 ∅ 0
        ∗ cred (tallyAt (wcell c 2 (⟨t.val, hlt⟩ : Fin 31).castSucc) () No) ∗ atPos ER (wcell c 2 (⟨t.val, hlt⟩ : Fin 31).castSucc) 0 ∅ 0)
      ⊢ iprop(((debt c (t.val + 1)
            ∗ slotPay m c 0 (⟨t.val, hlt⟩ : Fin 31).castSucc ∗ semVal (wcell c 0 (⟨t.val, hlt⟩ : Fin 31).castSucc) 0
            ∗ slotPay m c 1 (⟨t.val, hlt⟩ : Fin 31).succ ∗ semVal (wcell c 1 (⟨t.val, hlt⟩ : Fin 31).succ) 0
            ∗ slotPay m c 2 (⟨t.val, hlt⟩ : Fin 31).castSucc ∗ semVal (wcell c 2 (⟨t.val, hlt⟩ : Fin 31).castSucc) 0) -∗ Q ⟨⟩) -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v4 t arg17 h2) Q) := by
  rw [k0_part4_eq_skeleton]
  unfold k0_part4_skel
  simp only [Prog.lift, Prog.bind_op, Prog.bind_ret, Prog.pure_eq_ret]
  iintro ⟨#HR, #Hlev, HO, Hc0, Ha0, Hc1, Ha1, Hc2, Ha2⟩ Hk
  iapply (wait_q c m K 0 rfl (⟨t.val, hlt⟩ : Fin 31).castSucc (decide_eq_true (show (⟨t.val, hlt⟩ : Fin 31).castSucc.val < 31 from hlt)) (t.val + 1) (by rw [lv_send c (by decide)]; omega) (sem_wqS (⟨t.val, hlt⟩ : Fin 31).castSucc _ (k0_off28_eq t) _)) $$ [HO Hc0 Ha0]
  · isplitr; · iexact HR
    isplitr; · iexact Hlev
    isplitl [Hc0]; · iexact Hc0
    isplitl [HO]; · iexact HO
    iexact Ha0
  iintro ⟨HQl, HO, Hz0⟩
  iapply (wait_q c m K 1 rfl (⟨t.val, hlt⟩ : Fin 31).succ (decide_eq_true (show 0 < (⟨t.val, hlt⟩ : Fin 31).succ.val from Nat.succ_pos _)) (t.val + 1) (by rw [lv_recv c (by decide), Fin.val_succ]) (sem_wqR (⟨t.val, hlt⟩ : Fin 31).succ _ (k0_off31_eq t) _)) $$ [HO Hc1 Ha1]
  · isplitr; · iexact HR
    isplitr; · iexact Hlev
    isplitl [Hc1]; · iexact Hc1
    isplitl [HO]; · iexact HO
    iexact Ha1
  iintro ⟨HQn, HO, Hz1⟩
  iapply (wait_o c m K 2 rfl (⟨t.val, hlt⟩ : Fin 31).castSucc (decide_eq_true (show (⟨t.val, hlt⟩ : Fin 31).castSucc.val < 31 from hlt)) (t.val + 1) (by rw [lv_send c (by decide)]; omega) (sem_woS (⟨t.val, hlt⟩ : Fin 31).castSucc _ (k0_off28_eq t) _)) $$ [HO Hc2 Ha2]
  · isplitr; · iexact HR
    isplitr; · iexact Hlev
    isplitl [Hc2]; · iexact Hc2
    isplitl [HO]; · iexact HO
    iexact Ha2
  iintro ⟨HWl, HO, Hz2⟩
  rw [wp_ret]; imodintro
  iapply Hk
  isplitl [HO]; · iexact HO
  isplitl [HQl]; · iexact HQl
  isplitl [Hz0]; · iexact Hz0
  isplitl [HQn]; · iexact HQn
  isplitl [Hz1]; · iexact Hz1
  isplitl [HWl]; · iexact HWl
  iexact Hz2

/-- One trip. -/
theorem trip_ok (v2 v4 : BitVec 32) :
    iprop(records m K ∗ levAts L lv ∗ slotsAt m c ⟨t.val, trip_lt t⟩ fullShare ∗ flyAll m c (par t.val) (back c t.val) ∗ idleAll m c (par (t.val + 1))
        ∗ todoAt c t.val ∗ debt c t.val ∗ ctxAt (F := F) c [] ∗ outAt c (acc m c t.val))
      ⊢ wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 (xv m c) bias t ⟨⟩)  (fun _ => iprop(overAt m c t.val ∗ idleAll m c (par t.val) ∗ debt c (t.val + 1) ∗ ctxAt (F := F) c [] ∗ outAt c (acc m c (t.val + 1)))) := by
  unfold k0_t1_body
  rw [wp_bind]
  iintro ⟨#HR, #Hlev, HS, HF, HI, Hd, HO, HC, Hout⟩
  iapply (part5_ok m K c t v2 v4) $$ [HS HO HI Hd]
  · isplitr; · iexact HR
    isplitl [HS]; · iexact HS
    isplitl [HO]; · iexact HO
    isplitl [HI]; · iexact HI
    iexact Hd
  iintro %r ⟨HS, HO, Hmid⟩
  ihave HF := (Entails.of_eq (show flyAll m c (par t.val) (back c t.val) = iprop(kFly m c (par t.val) (back c t.val) 0 ∗ vFly m c (par t.val) (back c t.val) 0 ∗ kFly m c (par t.val) (back c t.val) 1 ∗ vFly m c (par t.val) (back c t.val) 1 ∗ kFly m c (par t.val) (back c t.val) 2 ∗ vFly m c (par t.val) (back c t.val) 2 ∗ kFly m c (par t.val) (back c t.val) 3 ∗ vFly m c (par t.val) (back c t.val) 3) from rfl)) $$ HF
  icases HF with ⟨HK0, HV0, HK1, HV1, HK2, HV2, HK3, HV3⟩
  simp only []
  rw [wp_bind]
  iapply (part6_ok m c t _ _) $$ [HO HK0 HV0 HK1]
  · isplitr; · iexact Hlev
    isplitl [HO]; · iexact HO
    isplitl [HK0]; · iexact HK0
    isplitl [HV0]; · iexact HV0
    iexact HK1
  iintro ⟨HO, HK0, HV0, HK1⟩
  rw [wp_bind]
  iapply (part7_ok m c t) $$ [HO HV1 HK2 HV2 HK3]
  · isplitr; · iexact Hlev
    isplitl [HO]; · iexact HO
    isplitl [HV1]; · iexact HV1
    isplitl [HK2]; · iexact HK2
    isplitl [HV2]; · iexact HV2
    iexact HK3
  iintro ⟨HO, HV1, HK2, HV2, HK3⟩
  rw [wp_bind]
  iapply (part8_ok m c t (qAt t.val) _ _) $$ [HO HV3 HS HK0 HV0 HC]
  · isplitr; · iexact Hlev
    isplitl [HO]; · iexact HO
    isplitl [HV3]; · iexact HV3
    isplitl [HS]; · iexact HS
    isplitl [HK0]; · iexact HK0
    isplitl [HV0]; · iexact HV0
    iexact HC
  iintro ⟨HO, HV3, HS, HK0, HV0, HC⟩
  simp only []
  rw [wp_bind]
  iapply (part9_ok m c t _) $$ [HK1 HV1 HK2 HC]
  · isplitl [HK1]; · iexact HK1
    isplitl [HV1]; · iexact HV1
    isplitl [HK2]; · iexact HK2
    iexact HC
  iintro ⟨HK1, HV1, HK2, HC⟩
  simp only []
  rw [wp_bind]
  iapply (part10_ok m c t _) $$ [HV2 HK3 HC]
  · isplitl [HV2]; · iexact HV2
    isplitl [HK3]; · iexact HK3
    iexact HC
  iintro ⟨HV2, HK3, HC⟩ %x
  simp only [Prog.lift, Prog.bind_op, Prog.bind_ret, Prog.pure_eq_ret]
  iapply (load_v m c (par t.val) (back c t.val) 3 (k0_off26_eq t 3)) $$ HV3; iintro HV3
  iapply (load_ctx c [⟨colRect 2, col m c t.val 2⟩, ⟨colRect 1, col m c t.val 1⟩, ⟨colRect 0, col m c t.val 0⟩] _ _ (fun _ => rfl)) $$ HC; iintro HC
  iapply (store_ctx c [⟨colRect 2, col m c t.val 2⟩, ⟨colRect 1, col m c t.val 1⟩, ⟨colRect 0, col m c t.val 0⟩] 3 (col m c t.val 3) rfl) $$ HC; iintro HC
  iapply (load_ctx_whole c (col m c t.val)) $$ HC; iintro HC
  iapply (load_wo m c ⟨t.val, trip_lt t⟩ (qAt t.val) (k0_off27_eq t)) $$ HS; iintro HS
  iapply (load_out c (acc m c t.val)) $$ Hout; iintro Hout
  iapply (load_out c (acc m c t.val)) $$ Hout; iintro Hout
  iapply (store_out c (acc m c t.val) (acc m c (t.val + 1))) $$ Hout; iintro Hout
  ihave HH := (heldAll_idle m c (par t.val) (back c t.val)) $$ [HK0 HV0 HK1 HV1 HK2 HV2 HK3 HV3]
  · unfold heldAll
    isplitl [HK0]; · iexact HK0
    isplitl [HV0]; · iexact HV0
    isplitl [HK1]; · iexact HK1
    isplitl [HV1]; · iexact HV1
    isplitl [HK2]; · iexact HK2
    isplitl [HV2]; · iexact HV2
    isplitl [HK3]; · iexact HK3
    iexact HV3
  unfold midAt overAt qAt
  by_cases hlt : t.val < 31
  · have h2 : k0_cond2 t = 1#1 := (cond2_iff t).mpr hlt
    simp only [dif_pos h2, dif_pos hlt, if_pos hlt]
    icases Hmid with ⟨HF, Hw⟩
    ihave Hw := (Entails.of_eq (show (waiting c ⟨t.val, hlt⟩ : sProp 𝕄) = iprop(cred (tallyAt (wcell c 0 (⟨t.val, hlt⟩ : Fin 31).castSucc) () Nq) ∗ cred (tallyAt (wcell c 2 (⟨t.val, hlt⟩ : Fin 31).castSucc) () No)
      ∗ (cred (tallyAt (wcell c 1 (⟨t.val, hlt⟩ : Fin 31).succ) () Nq) ∗ cred (tallyAt (wcell c 3 (⟨t.val, hlt⟩ : Fin 31).succ) () No))
      ∗ (atPos ER (wcell c 0 (⟨t.val, hlt⟩ : Fin 31).castSucc) 0 ∅ 0 ∗ atPos ER (wcell c 1 (⟨t.val, hlt⟩ : Fin 31).succ) 0 ∅ 0 ∗ atPos ER (wcell c 2 (⟨t.val, hlt⟩ : Fin 31).castSucc) 0 ∅ 0 ∗ atPos ER (wcell c 3 (⟨t.val, hlt⟩ : Fin 31).succ) 0 ∅ 0)) from rfl)) $$ Hw
    icases Hw with ⟨Hc0, Hc2, ⟨Hc1, Hc3⟩, Ha0, Ha1, Ha2, Ha3⟩
    rw [wp_bind]
    iapply (part4_ok m K c t hlt h2 v4 _) $$ [HO Hc0 Ha0 Hc1 Ha1 Hc2 Ha2]
    · isplitr; · iexact HR
      isplitr; · iexact Hlev
      isplitl [HO]; · iexact HO
      isplitl [Hc0]; · iexact Hc0
      isplitl [Ha0]; · iexact Ha0
      isplitl [Hc1]; · iexact Hc1
      isplitl [Ha1]; · iexact Ha1
      isplitl [Hc2]; · iexact Hc2
      iexact Ha2
    iintro ⟨HO, HQl, Hz0, HQn, Hz1, HWl, Hz2⟩
    iapply (wait_o c m K 3 rfl (⟨t.val, hlt⟩ : Fin 31).succ (decide_eq_true (show 0 < (⟨t.val, hlt⟩ : Fin 31).succ.val from Nat.succ_pos _)) (t.val + 1) (by rw [lv_recv c (by decide), Fin.val_succ]) (sem_woR (⟨t.val, hlt⟩ : Fin 31).succ _ (k0_off31_eq t) _)) $$ [HO Hc3 Ha3]
    · isplitr; · iexact HR
      isplitr; · iexact Hlev
      isplitl [Hc3]; · iexact Hc3
      isplitl [HO]; · iexact HO
      iexact Ha3
    iintro ⟨HWn, HO, Hz3⟩
    rw [wp_ret]; imodintro
    isplitr [HH HO HC Hout]
    · isplitl [HF]; · iexact HF
      isplitl [HQn HWn]
      · unfold slotsAt slotPay
        isplitl [HQn]; · iexact HQn
        iexact HWn
      unfold spent spentSlots zeros
      isplitl [HS HQl HWl]
      · ihave HS := (Entails.of_eq (show slotsAt m c ⟨t.val, trip_lt t⟩ fullShare.right = iprop(owns (c : Thread nD τ) (wqSlot (⟨t.val, hlt⟩ : Fin 31).castSucc) fullShare.right (wqVal m (back c t.val)) ∗ owns (c : Thread nD τ) (woSlot (⟨t.val, hlt⟩ : Fin 31).castSucc) fullShare.right (woVal m (back c t.val))) from rfl)) $$ HS
        icases HS with ⟨HQr, HWr⟩
        unfold slotPay ownQ ownO
        isplitl [HQl HQr]
        · iapply (owns_unite c (wqSlot (⟨t.val, hlt⟩ : Fin 31).castSucc) _ _)
          isplitl [HQl]; · iexact HQl
          iexact HQr
        · iapply (owns_unite c (woSlot (⟨t.val, hlt⟩ : Fin 31).castSucc) _ _)
          isplitl [HWl]; · iexact HWl
          iexact HWr
      isplitl [Hz0]; · iexact Hz0
      isplitl [Hz1]; · iexact Hz1
      isplitl [Hz2]; · iexact Hz2
      iexact Hz3
    isplitl [HH]; · iexact HH
    isplitl [HO]; · iexact HO
    isplitl [HC]; · iexact HC
    iexact Hout
  · have h2 : ¬ k0_cond2 t = 1#1 := fun h => hlt ((cond2_iff t).mp h)
    have ht : (⟨t.val, trip_lt t⟩ : Fin 32) = 31 := Fin.ext (by have := trip_lt t; show t.val = 31; omega)
    simp only [dif_neg h2, dif_neg hlt, if_neg hlt, Prog.bind_ret]
    rw [wp_ret]; imodintro
    isplitl [Hmid HS]
    · isplitl [Hmid]; · iexact Hmid
      rw [ht]
      iapply (slotsAt_spent m c 31); iexact HS
    isplitl [HH]; · iexact HH
    isplitl [HO]; · iexact HO
    isplitl [HC]; · iexact HC
    iexact Hout

end Parts

end Cert.Stream
-- ==== Proof.Loop.lean ====
/-
  The loop: its invariant, and what holds after its 32 trips.
-/
module

public import proofs.«01_k».proof.Proof.Trip4

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

variable (K : Dev nD × CI → ℕ) (c : Dev nD)

omit [FloatOps F] [Named F] in
/-- A separating product over a set with one more member. -/
theorem bigSep_ins {I : Type} [DecidableEq I] {s : Finset I} {i : I} (h : i ∉ s) (Φ : I → sProp 𝕄) :
    bigSep (insert i s) Φ = iprop(Φ i ∗ bigSep s Φ) := bigSep_insert h

/-- The steps at or after `k`, and those before it. -/
def ahead (k : ℕ) : Finset (Fin 31) := Finset.univ.filter (fun s => k ≤ s.val)
def behind (k : ℕ) : Finset (Fin 31) := Finset.univ.filter (fun s => s.val < k)

theorem ahead_zero : ahead 0 = Finset.univ := Finset.filter_true_of_mem (fun s _ => Nat.zero_le _)
theorem behind_zero : behind 0 = ∅ := Finset.filter_false_of_mem (fun s _ => Nat.not_lt_zero _)
theorem behind_last : behind 32 = Finset.univ := Finset.filter_true_of_mem (fun s _ => by omega)
theorem ahead_none {k : ℕ} (h : ¬ k < 31) : ahead k = ∅ := Finset.filter_false_of_mem (fun s _ => by omega)
theorem behind_succ {k : ℕ} (h : k < 31) : behind (k + 1) = insert (⟨k, h⟩ : Fin 31) (behind k) := by
  ext s
  simp only [behind, Finset.mem_filter, Finset.mem_univ, true_and, Finset.mem_insert, Fin.ext_iff]
  omega
theorem behind_stay {k : ℕ} (h : ¬ k < 31) : behind (k + 1) = behind k := by
  ext s
  simp only [behind, Finset.mem_filter, Finset.mem_univ, true_and]
  omega
theorem not_mem_behind {k : ℕ} (h : k < 31) : (⟨k, h⟩ : Fin 31) ∉ behind k := by
  simp only [behind, Finset.mem_filter, Finset.mem_univ, true_and]; omega

/-- The next step taken out of those ahead, where there is one. -/
theorem take_step (k : ℕ) : (bigSep (ahead k) (todo (F := F) c) : sProp 𝕄) ⊢ iprop(todoAt (F := F) c k ∗ bigSep (ahead (k + 1)) (todo (F := F) c)) := by
  unfold todoAt
  by_cases h : k < 31
  · rw [show ahead k = insert (⟨k, h⟩ : Fin 31) (ahead (k + 1)) from filter_step h, bigSep_ins (show (⟨k, h⟩ : Fin 31) ∉ ahead (k + 1) from not_mem_step h) _, dif_pos h]
  · rw [dif_neg h, ahead_none h, ahead_none (k := k + 1) (by omega), bigSep_empty]
    iintro H
    isplitr
    · iempintro
    · iexact H

/-- What the current step holds: its slots, its heads on their way, and the other set of head slots at rest; after the last
    trip, everything at rest. -/
def cur (k : ℕ) : sProp 𝕄 :=
  if h : k < 32 then iprop(slotsAt m c ⟨k, h⟩ fullShare ∗ flyAll m c (par k) (back c k) ∗ idleAll m c (par (k + 1)))
  else iprop(spentSlots c 31 ∗ idleAll m c 0 ∗ idleAll m c 1)

/-- The loop's invariant. -/
def inv (k : ℕ) : sProp 𝕄 :=
  iprop(records m K ∗ levAts L lv ∗ bigSep (behind k) (spent (F := F) c) ∗ bigSep (ahead k) (todo (F := F) c) ∗ debt c k ∗ ctxAt (F := F) c []
    ∗ outAt c (acc m c k) ∗ cur m c k)

/-- What a trip leaves is what the next one takes. -/
theorem over_cur (k : ℕ) (hk : k < 32) :
    iprop(bigSep (behind k) (spent (F := F) c) ∗ overAt m c k ∗ idleAll m c (par k)) ⊢ iprop(bigSep (behind (k + 1)) (spent (F := F) c) ∗ cur m c (k + 1)) := by
  have hp : par (k + 1 + 1) = par k := Fin.ext (by show (k + 1 + 1) % 2 = k % 2; omega)
  unfold overAt cur
  by_cases h : k < 31
  · rw [dif_pos h, dif_pos (show k + 1 < 32 by omega), behind_succ h, bigSep_ins (not_mem_behind h) _, hp]
    iintro ⟨HB, ⟨HF, HS, Hsp⟩, HI⟩
    isplitl [Hsp HB]
    · isplitl [Hsp]; · iexact Hsp
      iexact HB
    isplitl [HS]; · iexact HS
    isplitl [HF]; · iexact HF
    iexact HI
  · obtain rfl : k = 31 := by omega
    rw [dif_neg h, dif_neg (show ¬ 31 + 1 < 32 by omega), behind_stay h]
    iintro ⟨HB, ⟨HI0, HS⟩, HI1⟩
    isplitl [HB]; · iexact HB
    isplitl [HS]; · iexact HS
    isplitl [HI0]; · iexact HI0
    iexact HI1

/-- The invariant is kept by a trip. -/
theorem inv_step (v2 v4 : BitVec 32) (t : Fin k0_t1_loop.trips) (a : Unit) :
    inv m K c t.val ⊢ wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 (xv m c) bias t a)  (fun _ => inv m K c (t.val + 1)) := by
  unfold inv
  iintro ⟨#HR, #Hlev, HB, HA, HO, HC, Hout, Hcur⟩
  ihave HA := (take_step (F := F) c t.val) $$ HA
  icases HA with ⟨Hd, HA⟩
  ihave Hcur := (Entails.of_eq (show cur m c t.val = iprop(slotsAt m c ⟨t.val, trip_lt t⟩ fullShare ∗ flyAll m c (par t.val) (back c t.val) ∗ idleAll m c (par (t.val + 1))) from dif_pos (trip_lt t))) $$ Hcur
  icases Hcur with ⟨HS, HF, HI⟩
  iapply (wp_wand_r (Fr := frame))
  isplitl [Hd HO HC Hout HS HF HI]
  · iapply (trip_ok m K c t v2 v4)
    isplitr; · iexact HR
    isplitr; · iexact Hlev
    isplitl [HS]; · iexact HS
    isplitl [HF]; · iexact HF
    isplitl [HI]; · iexact HI
    isplitl [Hd]; · iexact Hd
    isplitl [HO]; · iexact HO
    isplitl [HC]; · iexact HC
    iexact Hout
  iintro %_ ⟨Hov, HI, HO, HC, Hout⟩
  ihave H := (over_cur m c t.val (trip_lt t)) $$ [HB Hov HI]
  · isplitl [HB]; · iexact HB
    isplitl [Hov]; · iexact Hov
    iexact HI
  icases H with ⟨HB, Hcur⟩
  isplitr; · iexact HR
  isplitr; · iexact Hlev
  isplitl [HB]; · iexact HB
  isplitl [HA]; · iexact HA
  isplitl [HO]; · iexact HO
  isplitl [HC]; · iexact HC
  isplitl [Hout]; · iexact Hout
  iexact Hcur

/-- The loop. -/
theorem loop_ok (v2 v4 : BitVec 32) :
    inv m K c 0 ⊢ wp frame (wpE (defs₀ (F := F)) 𝒱₀ (c : Thread nD τ) none) Set.univ (Scf.Loop.for k0_t1_loop k0_t1_ok ⟨⟩ (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 (xv m c) bias))  (fun _ => inv m K c 32) := by
  have h := Scf.wp_for frame (wpE (defs₀ (F := F)) 𝒱₀ (c : Thread nD τ) none) Set.univ k0_t1_loop.lb k0_t1_loop.ub k0_t1_loop.st k0_t1_ok ⟨⟩
    (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v4 (xv m c) bias) (fun k _ => inv m K c k) (fun t a => inv_step m K c v2 v4 t a) (Q := fun _ => inv m K c 32)
  iintro H
  iapply h
  isplitl [H]; · iexact H
  iintro %_ H
  iexact H

end Cert.Stream
-- ==== Proof.Start.lean ====
/-
  The kernel body: the barrier, the first step's slots, the mask, the first copies of heads; then the loop; at the end every cell is
  closed.
-/
module

public import proofs.«01_k».proof.Proof.Loop

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

variable (K : Dev nD × CI → ℕ) (c : Dev nD)

/-- A staging buffer of device `c`, held whole at contents `X`. -/
def held (b : Ref sig .tc) (X : Buf (Elt F) ((c : Thread nD τ).loc b)) : sProp 𝕄 := iprop(((c : Thread nD τ).loc b) ↦{fullShare} X)

theorem zero2 : (![0, 0] : Fin 2 → ℕ) = fun _ => 0 := funext fun a => by
  match a with
  | 0 => rfl
  | 1 => rfl

section Ops
variable {β : Type} {Q : β → sProp (MT nD τ sig Unit (Elt F) ℕ UU ℕ)}
/-- A load of a whole staging buffer. -/
theorem load_stg0 (X : Vec F S2x128x512 .f32) {k : Vec F S2x128x512 .f32 → Prog (TpuEff nD τ sig (Elt F) Λ₀ .tc) β} {hl} :
    held c cc0_stg0_0 X ⊢ iprop((held c cc0_stg0_0 X -∗ wp frame (wpE (defs₀ (F := F)) 𝒱₀ (c : Thread nD τ) none) Set.univ (k X) Q) -∗ wp frame (wpE (defs₀ (F := F)) 𝒱₀ (c : Thread nD τ) none) Set.univ (.op (.load (Memref.whole cc0_stg0_0 : Memref sig .tc .vmem S2x128x512 .f32) (Rect.unit (s := S2x128x512) ![0, 0, 0] S2x128x512.size inb_S2x128x512_S2x128x512_0_0_0).toLoadRect hl) k) Q) := by
  unfold held
  iintro H Hk
  iapply (wp_load 𝒱₀ (c : Thread nD τ) none Set.univ (m := (Memref.whole cc0_stg0_0 : Memref sig .tc .vmem S2x128x512 .f32)) (Finset.subset_univ _)) $$ H
  iintro H
  have hv : (Memref.whole cc0_stg0_0 : Memref sig .tc .vmem S2x128x512 .f32).view.readAt (Elt F) (Rect.unit (s := S2x128x512) ![0, 0, 0] S2x128x512.size inb_S2x128x512_S2x128x512_0_0_0).toLoadRect X = X :=
    Memref.readAt_unit_zero (Elt F) cc0_stg0_0 zero3 _ X
  rw [hv]
  iapply Hk
  iexact H

theorem load_stg1 (X : Vec F S512x256 .f32) {k : Vec F S512x256 .f32 → Prog (TpuEff nD τ sig (Elt F) Λ₀ .tc) β} {hl} :
    held c cc0_stg1_0 X ⊢ iprop((held c cc0_stg1_0 X -∗ wp frame (wpE (defs₀ (F := F)) 𝒱₀ (c : Thread nD τ) none) Set.univ (k X) Q) -∗ wp frame (wpE (defs₀ (F := F)) 𝒱₀ (c : Thread nD τ) none) Set.univ (.op (.load (Memref.whole cc0_stg1_0 : Memref sig .tc .vmem S512x256 .f32) (Rect.unit (s := S512x256) ![0, 0] S512x256.size inb_S512x256_S512x256_0_0).toLoadRect hl) k) Q) := by
  unfold held
  iintro H Hk
  iapply (wp_load 𝒱₀ (c : Thread nD τ) none Set.univ (m := (Memref.whole cc0_stg1_0 : Memref sig .tc .vmem S512x256 .f32)) (Finset.subset_univ _)) $$ H
  iintro H
  have hv : (Memref.whole cc0_stg1_0 : Memref sig .tc .vmem S512x256 .f32).view.readAt (Elt F) (Rect.unit (s := S512x256) ![0, 0] S512x256.size inb_S512x256_S512x256_0_0).toLoadRect X = X :=
    Memref.readAt_unit_zero (Elt F) cc0_stg1_0 zero2 _ X
  rw [hv]
  iapply Hk
  iexact H

theorem load_stg2 (X : Vec F S256x512 .f32) {k : Vec F S256x512 .f32 → Prog (TpuEff nD τ sig (Elt F) Λ₀ .tc) β} {hl} :
    held c cc0_stg2_0 X ⊢ iprop((held c cc0_stg2_0 X -∗ wp frame (wpE (defs₀ (F := F)) 𝒱₀ (c : Thread nD τ) none) Set.univ (k X) Q) -∗ wp frame (wpE (defs₀ (F := F)) 𝒱₀ (c : Thread nD τ) none) Set.univ (.op (.load (Memref.whole cc0_stg2_0 : Memref sig .tc .vmem S256x512 .f32) (Rect.unit (s := S256x512) ![0, 0] S256x512.size inb_S256x512_S256x512_0_0).toLoadRect hl) k) Q) := by
  unfold held
  iintro H Hk
  iapply (wp_load 𝒱₀ (c : Thread nD τ) none Set.univ (m := (Memref.whole cc0_stg2_0 : Memref sig .tc .vmem S256x512 .f32)) (Finset.subset_univ _)) $$ H
  iintro H
  have hv : (Memref.whole cc0_stg2_0 : Memref sig .tc .vmem S256x512 .f32).view.readAt (Elt F) (Rect.unit (s := S256x512) ![0, 0] S256x512.size inb_S256x512_S256x512_0_0).toLoadRect X = X :=
    Memref.readAt_unit_zero (Elt F) cc0_stg2_0 zero2 _ X
  rw [hv]
  iapply Hk
  iexact H

/-- A load of slot 0 whose value is not used, then the store that fills it with the device's own block. -/
theorem fill_wq {k : PUnit → Prog (TpuEff nD τ sig (Elt F) Λ₀ .tc) β} {hx hm hl} :
    iprop(∃ X, ownQ (F := F) c 0 fullShare X) ⊢ iprop((ownQ c 0 fullShare (wqVal m c) -∗ wp frame (wpE (defs₀ (F := F)) 𝒱₀ (c : Thread nD τ) none) Set.univ (k ⟨⟩) Q) -∗ wp frame (wpE (defs₀ (F := F)) 𝒱₀ (c : Thread nD τ) none) Set.univ (.op (.load (Memref.whole cc0_scratch0 : Memref sig .tc .vmem S32x512x256 .bf16) (Rect.unit (s := S32x512x256) ![0, 0, 0] S1x512x256.size inb_S32x512x256_S1x512x256_0_0_0).toLoadRect hl) fun _ => .op (.store (Memref.whole cc0_scratch0 : Memref sig .tc .vmem S32x512x256 .bf16) (Rect.unit (s := S32x512x256) ![0, 0, 0] S1x512x256.size inb_S32x512x256_S1x512x256_0_0_0) (k0_pay11 (wqIn m c)) Finset.univ hx hm) k) Q) := by
  unfold ownQ
  iintro ⟨%X, H⟩ Hk
  iapply (Slots.load_slot' 𝒱₀ (c : Thread nD τ) none (Rect.unit (s := S32x512x256) ![0, 0, 0] S1x512x256.size inb_S32x512x256_S1x512x256_0_0_0) (fun _ => rfl) squeezes_S1x512x256_S512x256 (sl := wqSlot 0) rfl X) $$ H; iintro H
  iapply (Slots.store_slot 𝒱₀ (c : Thread nD τ) none (Rect.unit (s := S32x512x256) ![0, 0, 0] S1x512x256.size inb_S32x512x256_S1x512x256_0_0_0) (fun _ => rfl) squeezes_S1x512x256_S512x256 (sl := wqSlot 0) rfl X) $$ H; iintro H
  iapply Hk
  iexact H
theorem fill_wo {k : PUnit → Prog (TpuEff nD τ sig (Elt F) Λ₀ .tc) β} {hx hm hl} :
    iprop(∃ X, ownO (F := F) c 0 fullShare X) ⊢ iprop((ownO c 0 fullShare (woVal m c) -∗ wp frame (wpE (defs₀ (F := F)) 𝒱₀ (c : Thread nD τ) none) Set.univ (k ⟨⟩) Q) -∗ wp frame (wpE (defs₀ (F := F)) 𝒱₀ (c : Thread nD τ) none) Set.univ (.op (.load (Memref.whole cc0_scratch1 : Memref sig .tc .vmem S32x256x512 .bf16) (Rect.unit (s := S32x256x512) ![0, 0, 0] S1x256x512.size inb_S32x256x512_S1x256x512_0_0_0).toLoadRect hl) fun _ => .op (.store (Memref.whole cc0_scratch1 : Memref sig .tc .vmem S32x256x512 .bf16) (Rect.unit (s := S32x256x512) ![0, 0, 0] S1x256x512.size inb_S32x256x512_S1x256x512_0_0_0) (k0_pay12 (woIn m c)) Finset.univ hx hm) k) Q) := by
  unfold ownO
  iintro ⟨%X, H⟩ Hk
  iapply (Slots.load_slot' 𝒱₀ (c : Thread nD τ) none (Rect.unit (s := S32x256x512) ![0, 0, 0] S1x256x512.size inb_S32x256x512_S1x256x512_0_0_0) (fun _ => rfl) squeezes_S1x256x512_S256x512 (sl := woSlot 0) rfl X) $$ H; iintro H
  iapply (Slots.store_slot 𝒱₀ (c : Thread nD τ) none (Rect.unit (s := S32x256x512) ![0, 0, 0] S1x256x512.size inb_S32x256x512_S1x256x512_0_0_0) (fun _ => rfl) squeezes_S1x256x512_S256x512 (sl := woSlot 0) rfl X) $$ H; iintro H
  iapply Hk
  iexact H
end Ops

/-- The barrier: a unit to either neighbour, the device's own slots 1 to 31 to the one before; then the wait for two, which
    brings the slots of the one after. The device's weight blocks go into slot 0. -/
theorem part11_ok {Q : (Σ' (d0 : Dev nD) (v2 : BitVec 32) (v4 : BitVec 32), FVec F S2x128x512 .f32) → sProp (MT nD τ sig Unit (Elt F) ℕ UU ℕ)} :
    iprop(records m K ∗ levAts L lv ∗ (∃ W, owes (c : Thread nD τ) (O₀ c) W)
        ∗ atPos ER (barCell c) 0 ∅ 0 ∗ dutyTok ER (barCell (prv c)) 0 true ∗ dutyTok ER (barCell (nxt c)) 0 false ∗ cred (tallyAt (barCell c) () 2)
        ∗ (bigSep Finset.univ fun s : Fin 31 => anySlots (F := F) c s) ∗ spentSlots (F := F) c 0
        ∗ held c cc0_stg1_0 (wqIn m c) ∗ held c cc0_stg2_0 (woIn m c))
      ⊢ iprop((∀ v2 v4, (debt c 0 ∗ semVal (barCell c) 0 ∗ barPay (F := F) c ∗ slotsAt m c 0 fullShare ∗ held c cc0_stg1_0 (wqIn m c) ∗ held c cc0_stg2_0 (woIn m c))
          -∗ Q ⟨c, v2, v4, k0_pay13⟩) -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  rw [k0_part11_eq_skeleton]
  unfold k0_part11_skel
  simp only [semSignalWord, semWaitWord, Prog.lift, Prog.bind_op, Prog.bind_ret, Prog.pure_eq_ret, wp_deviceId]
  simp only [dev1_eq c, dev2_eq c]
  unfold spentSlots
  iintro ⟨#HR, #Hlev, ⟨%W, HO⟩, HatB, HtP, HtN, HcB, Hmine, ⟨HQ, HW⟩, Hq, Hw⟩ Hk
  ihave #HIP := (inv_at m K (prv c, none)) $$ HR
  ihave #HIN := (inv_at m K (nxt c, none)) $$ HR
  ihave #HIB := (inv_at m K (c, none)) $$ HR
  ihave #HrP := (reached_at m K (prv c, none)) $$ HR
  ihave #HrN := (reached_at m K (nxt c, none)) $$ HR
  iapply (Rounds.wp_signal 𝒱₀ ER (Rd m) (c : Thread nD τ) none (dst := (prv c : Thread nD τ)) (κ := K (prv c, none))
      (d := true) (by rw [duties_bar]; exact Finset.mem_univ _) ((amount_bar m (prv c) true).trans (by decide)) () (O₁ c) rfl)
    $$ [HO HtP Hmine]
  · isplitr; · iexact HIP
    isplitl [HO]; · iexact HO
    isplitl [HtP]; · iexact HtP
    isplitl [Hmine]
    · rw [payload_bar_true]; unfold barPay; rw [nxt_prv]
      iexact Hmine
    iexact HrP
  iintro HO
  unfold O₁
  iapply (Rounds.wp_signal 𝒱₀ ER (Rd m) (c : Thread nD τ) none (dst := (nxt c : Thread nD τ)) (κ := K (nxt c, none))
      (d := false) (by rw [duties_bar]; exact Finset.mem_univ _) ((amount_bar m (nxt c) false).trans (by decide)) () (owed c 0) rfl)
    $$ [HO HtN]
  · isplitr; · iexact HIN
    isplitl [HO]; · iexact HO
    isplitl [HtN]; · iexact HtN
    isplitr; · rw [payload_bar_false]; iempintro
    iexact HrN
  iintro HO
  iapply (Rounds.wp_wait_rest_token 𝒱₀ ER (Rd m) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iexact HIB
    isplitl [HcB]; · iexact HcB
    isplitl [HO]; · iexact HO
    isplitr; · iapply (mayWait_owed c (.reg barS) 0 (by rw [lv_bar]; decide)); iexact Hlev
    iexact HatB
  iintro ⟨HO, HatB, -, Hpay⟩
  ihave Hp := (Entails.of_eq (rest_bar m c)) $$ Hpay
  icases Hp with ⟨-, Hp⟩
  imod (Rounds.cell_close ER (Rd m) (Set.mem_univ (K (c, none))) (fun h => h) (R := 0 + 1) (duties_later m (barCell c))) $$ [HatB] with Hz
  · isplitr; · iexact HIB
    iexact HatB
  iapply (load_stg1 c (wqIn m c)) $$ Hq; iintro Hq
  iapply (fill_wq m c) $$ HQ; iintro HQ
  iapply (load_stg2 c (woIn m c)) $$ Hw; iintro Hw
  iapply (fill_wo m c) $$ HW; iintro HW
  rw [wp_ret]; imodintro
  iapply Hk
  isplitl [HO]; · unfold debt; iexists _; iexact HO
  isplitl [Hz]; · iexact Hz
  isplitl [Hp]; · iexact Hp
  isplitl [HQ HW]
  · unfold slotsAt; rw [show back c (0 : Fin 32).val = c from back_zero c]
    isplitl [HQ]; · iexact HQ
    iexact HW
  isplitl [Hq]; · iexact Hq
  iexact Hw

/-- The output buffer is zeroed and the activations are read. -/
theorem part12_ok {Q : (Σ' (v31 : FVec F S256x512 .bf16) (v56 : IVec S256x256 32) (v57 : IVec S256x256 32) (c64_i32_32 : BitVec 32) (v59 : IVec S256x256 32) (v66 : IVec S256x256 32), BitVec 32) → sProp (MT nD τ sig Unit (Elt F) ℕ UU ℕ)} :
    iprop((∃ X, outAt (F := F) c X) ∗ held c cc0_stg0_0 (xIn m c))
      ⊢ iprop(((outAt c (acc m c 0) ∗ held c cc0_stg0_0 (xIn m c))
          -∗ Q ⟨xv m c, k0_pay15, iota .tc S256x256 32 [1] iota_S256x256_d1_w32, 64#32, k0_pay16, k0_pay17, Scalar.extui (Scalar.cmpi .sgt 64#32 0#32)⟩) -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 k0_pay13) Q) := by
  rw [k0_part12_eq_skeleton]
  unfold k0_part12_skel
  simp only [Prog.lift, Prog.bind_op, Prog.bind_ret, Prog.pure_eq_ret]
  unfold xv
  iintro ⟨⟨%X, Hout⟩, Hx⟩ Hk
  iapply (load_out c X) $$ Hout; iintro Hout
  iapply (store_out c X (acc m c 0)) $$ Hout; iintro Hout
  iapply (load_stg0 c (xIn m c)) $$ Hx; iintro Hx
  rw [wp_ret]; imodintro
  iapply Hk
  isplitl [Hout]; · iexact Hout
  iexact Hx

theorem part13_ok (v2 : BitVec 32) {Q : (Σ' (v85 : FVec F S256x256 .f32) (v86 : BitVec 32) (v89 : BitVec 32), BitVec 32) → sProp (MT nD τ sig Unit (Elt F) ℕ UU ℕ)} :
    iprop(∀ x, Q ⟨bias, x⟩) ⊢ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v2 k0_pay15 (iota .tc S256x256 32 [1] iota_S256x256_d1_w32) 64#32 k0_pay16 k0_pay17 (Scalar.extui (Scalar.cmpi .sgt 64#32 0#32))) Q := by
  rw [k0_part13_eq_skeleton]
  unfold k0_part13_skel
  simp only [Prog.lift, Prog.bind_op, Prog.bind_ret, Prog.pure_eq_ret]
  unfold bias
  rw [wp_ret]
  iintro H; imodintro
  ispecialize H $$ %_
  iexact H

theorem part14_ok (v86 v89 v59 : BitVec 32) {Q : PUnit → sProp (MT nD τ sig Unit (Elt F) ℕ UU ℕ)} :
    kIdle m c 0 0 ⊢ iprop((kFly m c 0 (back c 0) 0 -∗ Q ⟨⟩) -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v86 v89 v59) Q) := by
  rw [k0_part14_eq_skeleton]
  unfold k0_part14_skel
  simp only [Prog.lift, Prog.bind_op, Prog.bind_ret, Prog.pure_eq_ret]
  iintro HK0 Hk
  iapply (start_k m c 0 (back c 0) 0 (src_first c 0) (k0_off2_eq 0) (k0_off1_eq)) $$ HK0; iintro HK0
  rw [wp_ret]; imodintro
  iapply Hk; iexact HK0

theorem part15_ok {Q : PUnit → sProp (MT nD τ sig Unit (Elt F) ℕ UU ℕ)} :
    iprop(vIdle m c 0 0 ∗ kIdle m c 0 1 ∗ vIdle m c 0 1 ∗ kIdle m c 0 2 ∗ vIdle m c 0 2)
      ⊢ iprop(((vFly m c 0 (back c 0) 0 ∗ kFly m c 0 (back c 0) 1 ∗ vFly m c 0 (back c 0) 1 ∗ kFly m c 0 (back c 0) 2 ∗ vFly m c 0 (back c 0) 2) -∗ Q ⟨⟩) -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c) Q) := by
  rw [k0_part15_eq_skeleton]
  unfold k0_part15_skel
  simp only [Prog.lift, Prog.bind_op, Prog.bind_ret, Prog.pure_eq_ret]
  iintro ⟨HV0, HK1, HV1, HK2, HV2⟩ Hk
  iapply (start_v m c 0 (back c 0) 0 (src_first c 0) (k0_off2_eq 0) (k0_off1_eq)) $$ HV0; iintro HV0
  iapply (start_k m c 0 (back c 0) 1 (src_first c 1) (k0_off2_eq 1) (k0_off4_eq)) $$ HK1; iintro HK1
  iapply (start_v m c 0 (back c 0) 1 (src_first c 1) (k0_off2_eq 1) (k0_off4_eq)) $$ HV1; iintro HV1
  iapply (start_k m c 0 (back c 0) 2 (src_first c 2) (k0_off2_eq 2) (k0_off5_eq)) $$ HK2; iintro HK2
  iapply (start_v m c 0 (back c 0) 2 (src_first c 2) (k0_off2_eq 2) (k0_off5_eq)) $$ HV2; iintro HV2
  rw [wp_ret]; imodintro
  iapply Hk
  isplitl [HV0]; · iexact HV0
  isplitl [HK1]; · iexact HK1
  isplitl [HV1]; · iexact HV1
  isplitl [HK2]; · iexact HK2
  iexact HV2
/-- The cells never used: the last slot's send cells, the first slot's receive cells. -/
def unusedAts : sProp 𝕄 := iprop(atPos ER (wcell c 0 31) 0 ∅ 0 ∗ atPos ER (wcell c 1 0) 0 ∅ 0 ∗ atPos ER (wcell c 2 31) 0 ∅ 0 ∗ atPos ER (wcell c 3 0) 0 ∅ 0)
def unusedZeros : sProp 𝕄 := iprop(semVal (wcell c 0 31) 0 ∗ semVal (wcell c 1 0) 0 ∗ semVal (wcell c 2 31) 0 ∗ semVal (wcell c 3 0) 0)

theorem close_unused (kk : Fin 4) (t : Fin 32) (hl : live kk t = false) :
    iprop(records m K ∗ atPos ER (wcell c kk t) 0 ∅ 0) ⊢ iprop(|={Set.univ}=> semVal (wcell c kk t) 0) := by
  iintro ⟨#HR, Hat⟩
  ihave #HI := (inv_at m K (c, some (kk, t))) $$ HR
  imod (Rounds.cell_close ER (Rd m) (Set.mem_univ (K (c, some (kk, t)))) (fun h => h) (R := 0) (fun r hr => by
    rcases Nat.eq_zero_or_pos r with rfl | h
    · exact duties_dead m c hl
    · exact duties_later m (wcell c kk t) r h)) $$ [Hat] with Hz
  · isplitr; · iexact HI
    iexact Hat
  imodintro
  iexact Hz

/-- What the body starts from beside the staged operands. -/
def bodyIn : sProp 𝕄 :=
  iprop(records m K ∗ levAts L lv
    ∗ (atPos ER (barCell c) 0 ∅ 0 ∗ dutyTok ER (barCell (prv c)) 0 true ∗ dutyTok ER (barCell (nxt c)) 0 false ∗ cred (tallyAt (barCell c) () 2))
    ∗ unusedAts (F := F) c ∗ (bigSep Finset.univ fun s : Fin 31 => iprop(toks (F := F) c s ∗ inCreds (F := F) c s ∗ ats (F := F) c s))
    ∗ (bigSep Finset.univ fun s : Fin 31 => anySlots (F := F) c s) ∗ spentSlots (F := F) c 0
    ∗ idleAll m c 0 ∗ idleAll m c 1 ∗ ctxAt (F := F) c [])
/-- What it leaves beside the staged operands and the result. -/
def bodyOut : sProp 𝕄 :=
  iprop(semVal (barCell c) 0 ∗ unusedZeros (F := F) c ∗ (bigSep Finset.univ fun s : Fin 31 => spent (F := F) c s) ∗ spentSlots (F := F) c 31
    ∗ idleAll m c 0 ∗ idleAll m c 1 ∗ ctxAt (F := F) c [])

omit [FloatOps F] [Named F] in
theorem ahead_all : iprop(barPay (F := F) c ∗ bigSep Finset.univ fun s : Fin 31 => iprop(toks (F := F) c s ∗ inCreds (F := F) c s ∗ ats (F := F) c s))
    ⊢ (bigSep (ahead 0) (todo (F := F) c) : sProp 𝕄) := by
  rw [ahead_zero]
  unfold barPay
  have h := (bigSep_sep Finset.univ (fun s : Fin 31 => anySlots (F := F) (nxt c) s) (fun s : Fin 31 => (iprop(toks (F := F) c s ∗ inCreds (F := F) c s ∗ ats (F := F) c s) : sProp 𝕄)))
  exact Entails.of_eq h.symm

/-- The whole body: from the staged operands and an output buffer at any contents to the output buffer holding the sum of the
    32 contributions. -/
theorem body_ok {Q : PUnit → sProp (MT nD τ sig Unit (Elt F) ℕ UU ℕ)} :
    iprop(bodyIn m K c ∗ (∃ W, owes (c : Thread nD τ) (O₀ c) W) ∗ held c cc0_stg0_0 (xIn m c) ∗ held c cc0_stg1_0 (wqIn m c) ∗ held c cc0_stg2_0 (woIn m c) ∗ (∃ X, outAt (F := F) c X))
      ⊢ iprop(((bodyOut m c ∗ (∃ W, owes (c : Thread nD τ) 0 W) ∗ held c cc0_stg0_0 (xIn m c) ∗ held c cc0_stg1_0 (wqIn m c) ∗ held c cc0_stg2_0 (woIn m c) ∗ outAt c (acc m c 32))
          -∗ Q ⟨⟩) -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  rw [cc0_body_eq_skeleton]
  unfold cc0_body_skel bodyIn unusedAts
  rw [wp_bind]
  iintro ⟨⟨#HR, #Hlev, ⟨HatB, HtP, HtN, HcB⟩, ⟨Hu0, Hu1, Hu2, Hu3⟩, Hst, Hmine, Hs0, HI0, HI1, HC⟩, HO, Hx, Hq, Hw, Hout⟩ Hk
  iapply (part11_ok m K c) $$ [HO HatB HtP HtN HcB Hmine Hs0 Hq Hw]
  · isplitr; · iexact HR
    isplitr; · iexact Hlev
    isplitl [HO]; · iexact HO
    isplitl [HatB]; · iexact HatB
    isplitl [HtP]; · iexact HtP
    isplitl [HtN]; · iexact HtN
    isplitl [HcB]; · iexact HcB
    isplitl [Hmine]; · iexact Hmine
    isplitl [Hs0]; · iexact Hs0
    isplitl [Hq]; · iexact Hq
    iexact Hw
  iintro %v2 %v4 ⟨HO, Hz, Hp, HS, Hq, Hw⟩
  simp only []
  rw [wp_bind]
  iapply (part12_ok m c) $$ [Hout Hx]
  · isplitl [Hout]; · iexact Hout
    iexact Hx
  iintro ⟨Hout, Hx⟩
  simp only []
  rw [wp_bind]
  iapply (part13_ok c v2)
  iintro %r
  simp only []
  rw [wp_bind]
  ihave HI0 := (Entails.of_eq (show idleAll m c 0 = iprop(kIdle m c 0 0 ∗ vIdle m c 0 0 ∗ kIdle m c 0 1 ∗ vIdle m c 0 1 ∗ kIdle m c 0 2 ∗ vIdle m c 0 2 ∗ kIdle m c 0 3 ∗ vIdle m c 0 3) from rfl)) $$ HI0
  icases HI0 with ⟨HK0, HV0, HK1, HV1, HK2, HV2, HK3, HV3⟩
  iapply (part14_ok m c _ _ _) $$ HK0
  iintro HK0
  rw [wp_bind]
  iapply (part15_ok m c) $$ [HV0 HK1 HV1 HK2 HV2]
  · isplitl [HV0]; · iexact HV0
    isplitl [HK1]; · iexact HK1
    isplitl [HV1]; · iexact HV1
    isplitl [HK2]; · iexact HK2
    iexact HV2
  iintro ⟨HV0, HK1, HV1, HK2, HV2⟩
  simp only [Prog.lift, Prog.bind_op, Prog.bind_ret, Prog.pure_eq_ret]
  iapply (start_k m c 0 (back c 0) 3 (src_first c 3) (k0_off2_eq 3) (k0_off6_eq)) $$ HK3; iintro HK3
  iapply (start_v m c 0 (back c 0) 3 (src_first c 3) (k0_off2_eq 3) (k0_off6_eq)) $$ HV3; iintro HV3
  rw [wp_bind]
  iapply (wp_wand_r (Fr := frame))
  isplitl [HK0 HV0 HK1 HV1 HK2 HV2 HK3 HV3 HO Hp HS Hst HI1 HC Hout]
  · iapply (loop_ok m K c v2 v4)
    unfold inv cur
    rw [behind_zero, bigSep_empty, dif_pos (show 0 < 32 by decide)]
    isplitr; · iexact HR
    isplitr; · iexact Hlev
    isplitr; · iempintro
    isplitl [Hp Hst]
    · iapply (ahead_all c)
      isplitl [Hp]; · iexact Hp
      iexact Hst
    isplitl [HO]; · iexact HO
    isplitl [HC]; · iexact HC
    isplitl [Hout]; · iexact Hout
    isplitl [HS]; · iexact HS
    isplitr [HI1]
    · unfold flyAll
      isplitl [HK0]; · iexact HK0
      isplitl [HV0]; · iexact HV0
      isplitl [HK1]; · iexact HK1
      isplitl [HV1]; · iexact HV1
      isplitl [HK2]; · iexact HK2
      isplitl [HV2]; · iexact HV2
      isplitl [HK3]; · iexact HK3
      iexact HV3
    iexact HI1
  iintro %_ Hinv
  unfold inv cur
  rw [behind_last, dif_neg (show ¬ 32 < 32 by decide)]
  icases Hinv with ⟨-, -, HB, -, HO, HC, Hout, HS, HI0, HI1⟩
  imod (close_unused m K c 0 31 rfl) $$ [Hu0] with Hu0
  · isplitr; · iexact HR
    iexact Hu0
  imod (close_unused m K c 1 0 rfl) $$ [Hu1] with Hu1
  · isplitr; · iexact HR
    iexact Hu1
  imod (close_unused m K c 2 31 rfl) $$ [Hu2] with Hu2
  · isplitr; · iexact HR
    iexact Hu2
  imod (close_unused m K c 3 0 rfl) $$ [Hu3] with Hu3
  · isplitr; · iexact HR
    iexact Hu3
  rw [wp_ret]; imodintro
  iapply Hk
  unfold bodyOut unusedZeros debt
  rw [owed_last c (show 31 ≤ 32 by decide)]
  isplitr [HO Hx Hq Hw Hout]
  · isplitl [Hz]; · iexact Hz
    isplitl [Hu0 Hu1 Hu2 Hu3]
    · isplitl [Hu0]; · iexact Hu0
      isplitl [Hu1]; · iexact Hu1
      isplitl [Hu2]; · iexact Hu2
      iexact Hu3
    isplitl [HB]; · iexact HB
    isplitl [HS]; · iexact HS
    isplitl [HI0]; · iexact HI0
    isplitl [HI1]; · iexact HI1
    iexact HC
  isplitl [HO]; · iexact HO
  isplitl [Hx]; · iexact Hx
  isplitl [Hq]; · iexact Hq
  isplitl [Hw]; · iexact Hw
  iexact Hout

end Cert.Stream
-- ==== Proof.Scratch.lean ====
/-
  The kernel's scratch buffers cut into the pieces its body works on, and put together again: the two weight buffers
  into their thirty-two slots, the two head buffers into their eight slots, and the two replicated arrays into the
  shares lent to the sixteen copies of heads.
-/
module

public import proofs.«01_k».proof.Proof.Start
public import Idealize.ShloMosaic.Lib.Ring

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Families over the steps -/

omit [FloatOps F] [Named F] in
/-- A family over the thirty-two steps: the first and the thirty-one others, -/
theorem steps_first (Φ : Fin 32 → sProp 𝕄) :
    bigSep Finset.univ Φ = iprop(Φ 0 ∗ bigSep Finset.univ fun s : Fin 31 => Φ s.succ) := by
  have h : (Finset.univ : Finset (Fin 32)) = insert 0 (Finset.univ.map ⟨Fin.succ, Fin.succ_injective 31⟩) := by decide
  rw [h, bigSep_ins (by decide), bigSep_map]
  rfl

omit [FloatOps F] [Named F] in
/-- or the last and the thirty-one before it. -/
theorem steps_last (Φ : Fin 32 → sProp 𝕄) :
    bigSep Finset.univ Φ = iprop(Φ 31 ∗ bigSep Finset.univ fun s : Fin 31 => Φ s.castSucc) := by
  have h : (Finset.univ : Finset (Fin 32)) = insert 31 (Finset.univ.map ⟨Fin.castSucc, Fin.castSucc_injective 31⟩) := by decide
  rw [h, bigSep_ins (by decide), bigSep_map]
  rfl

/-! ## Memrefs onto parts of a buffer -/

omit [FloatOps F] [Named F] in
/-- What a region of a buffer holds at some contents, a memref onto it holds at some value; -/
theorem owns_some (c : Thread nD τ) {sp : Space} {s : Shape} {e : EltTy} (r : Memref sig c.2.kind sp s e) (S : Finset r.view.ty.Idx) (hS : r.view.set = S)
    (f : Buf (Elt F) (r.view.loc c)) :
    ((r.view.loc c) ↦[S]{fullShare} f : sProp 𝕄) ⊢ iprop(∃ X, owns c r fullShare X) := by
  subst hS
  simp only [Slots.owns_def]
  iintro H
  iexists (r.view.read (Elt F) f)
  iexists f
  isplitr; · ipureintro; rfl
  iexact H
omit [FloatOps F] [Named F] in
/-- and the other way round. -/
theorem some_owns (c : Thread nD τ) {sp : Space} {s : Shape} {e : EltTy} (r : Memref sig c.2.kind sp s e) (S : Finset r.view.ty.Idx) (hS : r.view.set = S) :
    iprop(∃ X, (owns c r fullShare X : sProp 𝕄)) ⊢ iprop(∃ f, ((r.view.loc c) ↦[S]{fullShare} f : sProp 𝕄)) := by
  subst hS
  simp only [Slots.owns_def]
  iintro ⟨%X, %f, -, H⟩
  iexists f; iexact H

/-! ## The weight buffers -/

/-- The elements of the query weights' slot for step `t`, -/
def wqSet (t : Fin 32) : Finset S32x512x256.Idx := (Rect.unit (s := S32x512x256) ![t.val, 0, 0] S1x512x256.size (inb_wq t)).set
/-- and of the output weights'. -/
def woSet (t : Fin 32) : Finset S32x256x512.Idx := (Rect.unit (s := S32x256x512) ![t.val, 0, 0] S1x256x512.size (inb_wo t)).set

theorem wq_set (t : Fin 32) : (wqSlot t).view.set = wqSet t := (View.set_reshape _ _).trans (View.set_slice_whole _ _)
theorem wo_set (t : Fin 32) : (woSlot t).view.set = woSet t := (View.set_reshape _ _).trans (View.set_slice_whole _ _)

theorem wq_disjoint (a b : Fin 32) (h : a ≠ b) : Disjoint (wqSet a) (wqSet b) :=
  Ring.lead_disjoint (s := S32x512x256) 0 1 (fun t : Fin 32 => ![t.val, 0, 0]) S1x512x256.size inb_wq (fun t => (Nat.one_mul _).symm) rfl a b h
theorem wo_disjoint (a b : Fin 32) (h : a ≠ b) : Disjoint (woSet a) (woSet b) :=
  Ring.lead_disjoint (s := S32x256x512) 0 1 (fun t : Fin 32 => ![t.val, 0, 0]) S1x256x512.size inb_wo (fun t => (Nat.one_mul _).symm) rfl a b h
theorem wq_cover : Finset.univ.biUnion wqSet = Finset.univ :=
  Ring.lead_cover (s := S32x512x256) 0 1 (fun t : Fin 32 => ![t.val, 0, 0]) S1x512x256.size inb_wq (fun t => (Nat.one_mul _).symm)
    (fun t a h => by fin_cases a <;> first | rfl | exact absurd rfl h) rfl (by decide) rfl
theorem wo_cover : Finset.univ.biUnion woSet = Finset.univ :=
  Ring.lead_cover (s := S32x256x512) 0 1 (fun t : Fin 32 => ![t.val, 0, 0]) S1x256x512.size inb_wo (fun t => (Nat.one_mul _).symm)
    (fun t a h => by fin_cases a <;> first | rfl | exact absurd rfl h) rfl (by decide) rfl

omit [FloatOps F] [Named F] in
theorem wq_split (c : Dev nD) :
    iprop(∃ f, ((c : Thread nD τ).loc cc0_scratch0) ↦{fullShare} f) ⊢ (bigSep Finset.univ fun t : Fin 32 => iprop(∃ X, ownQ (F := F) c t fullShare X) : sProp 𝕄) := by
  iintro ⟨%f, H⟩
  ihave H := (Entails.of_eq (Ring.pointsTo_blocks (ℓ := (c : Thread nD τ).loc cc0_scratch0) wqSet wq_disjoint wq_cover f)) $$ H
  have h : (bigSep Finset.univ fun t : Fin 32 => ((c : Thread nD τ).loc cc0_scratch0) ↦[wqSet t]{fullShare} f : sProp 𝕄)
      ⊢ bigSep Finset.univ fun t : Fin 32 => iprop(∃ X, ownQ (F := F) c t fullShare X) :=
    bigSep_mono fun t _ => owns_some (c : Thread nD τ) (wqSlot t) (wqSet t) (wq_set t) f
  iapply h; iexact H
theorem wq_join (c : Dev nD) :
    (bigSep Finset.univ fun t : Fin 32 => iprop(∃ X, ownQ (F := F) c t fullShare X) : sProp 𝕄) ⊢ iprop(∃ f, ((c : Thread nD τ).loc cc0_scratch0) ↦{fullShare} f) := by
  have h : (bigSep Finset.univ fun t : Fin 32 => iprop(∃ X, ownQ (F := F) c t fullShare X) : sProp 𝕄)
      ⊢ bigSep Finset.univ fun t : Fin 32 => iprop(∃ f, ((c : Thread nD τ).loc cc0_scratch0) ↦[wqSet t]{fullShare} f) :=
    bigSep_mono fun t _ => some_owns (c : Thread nD τ) (wqSlot t) (wqSet t) (wq_set t)
  iintro H
  ihave H := h $$ H
  iapply (Ring.pointsTo_blocks_join_exists (ℓ := (c : Thread nD τ).loc cc0_scratch0) wqSet wq_disjoint wq_cover fun _ => Classical.choice ((inferInstance : ∀ e, Nonempty (Elt F e)) .bf16))
  iexact H

omit [FloatOps F] [Named F] in
theorem wo_split (c : Dev nD) :
    iprop(∃ f, ((c : Thread nD τ).loc cc0_scratch1) ↦{fullShare} f) ⊢ (bigSep Finset.univ fun t : Fin 32 => iprop(∃ X, ownO (F := F) c t fullShare X) : sProp 𝕄) := by
  iintro ⟨%f, H⟩
  ihave H := (Entails.of_eq (Ring.pointsTo_blocks (ℓ := (c : Thread nD τ).loc cc0_scratch1) woSet wo_disjoint wo_cover f)) $$ H
  have h : (bigSep Finset.univ fun t : Fin 32 => ((c : Thread nD τ).loc cc0_scratch1) ↦[woSet t]{fullShare} f : sProp 𝕄)
      ⊢ bigSep Finset.univ fun t : Fin 32 => iprop(∃ X, ownO (F := F) c t fullShare X) :=
    bigSep_mono fun t _ => owns_some (c : Thread nD τ) (woSlot t) (woSet t) (wo_set t) f
  iapply h; iexact H
theorem wo_join (c : Dev nD) :
    (bigSep Finset.univ fun t : Fin 32 => iprop(∃ X, ownO (F := F) c t fullShare X) : sProp 𝕄) ⊢ iprop(∃ f, ((c : Thread nD τ).loc cc0_scratch1) ↦{fullShare} f) := by
  have h : (bigSep Finset.univ fun t : Fin 32 => iprop(∃ X, ownO (F := F) c t fullShare X) : sProp 𝕄)
      ⊢ bigSep Finset.univ fun t : Fin 32 => iprop(∃ f, ((c : Thread nD τ).loc cc0_scratch1) ↦[woSet t]{fullShare} f) :=
    bigSep_mono fun t _ => some_owns (c : Thread nD τ) (woSlot t) (woSet t) (wo_set t)
  iintro H
  ihave H := h $$ H
  iapply (Ring.pointsTo_blocks_join_exists (ℓ := (c : Thread nD τ).loc cc0_scratch1) woSet wo_disjoint wo_cover fun _ => Classical.choice ((inferInstance : ∀ e, Nonempty (Elt F e)) .bf16))
  iexact H

omit [FloatOps F] [Named F] in
/-- The two weight buffers are their slots; -/
theorem split_weights (c : Dev nD) :
    iprop((∃ f, ((c : Thread nD τ).loc cc0_scratch0) ↦{fullShare} f) ∗ (∃ f, ((c : Thread nD τ).loc cc0_scratch1) ↦{fullShare} f))
      ⊢ (bigSep Finset.univ (spentSlots (F := F) c) : sProp 𝕄) := by
  unfold spentSlots
  rw [bigSep_sep']
  iintro ⟨H0, H1⟩
  isplitl [H0]
  · iapply (wq_split c); iexact H0
  · iapply (wo_split c); iexact H1

/-- and the slots, whatever they hold, are the buffers again. -/
theorem join_weights (c : Dev nD) : (bigSep Finset.univ (spentSlots (F := F) c) : sProp 𝕄)
      ⊢ iprop((∃ f, ((c : Thread nD τ).loc cc0_scratch0) ↦{fullShare} f) ∗ (∃ f, ((c : Thread nD τ).loc cc0_scratch1) ↦{fullShare} f)) := by
  unfold spentSlots
  rw [bigSep_sep']
  iintro ⟨H0, H1⟩
  isplitl [H0]
  · iapply (wq_join c); iexact H0
  · iapply (wo_join c); iexact H1

/-! ## The head buffers and the arrays they are copied from -/

/-- The eight copies, in order. -/
def copyOf : Fin 2 × Fin 4 ≃ Fin 8 where
  toFun x := ⟨4 * x.1.val + x.2.val, by omega⟩
  invFun i := (⟨i.val / 4, by omega⟩, ⟨i.val % 4, by omega⟩)
  left_inv x := by revert x; decide
  right_inv i := by revert i; decide

theorem inb_k (i : Fin 8) : ∀ a, (![i.val, 0, 0, 0] : Fin 4 → ℕ) a + S1x2x128x64.size a ≤ S8x2x128x64.size a := by
  revert i; decide +kernel

/-- The elements of the slot a copy lands in. -/
def headSet (x : Fin 2 × Fin 4) : Finset S8x2x128x64.Idx := (Rect.unit (s := S8x2x128x64) ![(copyOf x).val, 0, 0, 0] S1x2x128x64.size (inb_k _)).set

theorem k_set (x : Fin 2 × Fin 4) : (kBuf x.1 x.2).view.set = headSet x := (View.set_reshape _ _).trans (View.set_slice_whole _ _)
theorem v_set (x : Fin 2 × Fin 4) : (vBuf x.1 x.2).view.set = headSet x := (View.set_reshape _ _).trans (View.set_slice_whole _ _)

theorem head_disjoint (x y : Fin 2 × Fin 4) (h : x ≠ y) : Disjoint (headSet x) (headSet y) :=
  Ring.lead_disjoint (s := S8x2x128x64) 0 1 (fun i : Fin 8 => ![i.val, 0, 0, 0]) S1x2x128x64.size inb_k (fun t => (Nat.one_mul _).symm) rfl _ _
    (fun e => h (copyOf.injective e))
theorem head_cover : Finset.univ.biUnion headSet = Finset.univ := by
  have h := Ring.lead_cover (s := S8x2x128x64) 0 1 (fun i : Fin 8 => ![i.val, 0, 0, 0]) S1x2x128x64.size inb_k (fun t => (Nat.one_mul _).symm)
    (fun t a h => by fin_cases a <;> first | rfl | exact absurd rfl h) rfl (by decide) rfl
  rw [← h, ← Finset.univ_map_equiv_to_embedding copyOf, Finset.map_eq_image, Finset.image_biUnion]
  rfl

omit [FloatOps F] [Named F] in
theorem k_split (c : Dev nD) :
    iprop(∃ f, ((c : Thread nD τ).loc cc0_scratch2) ↦{fullShare} f) ⊢ (bigSep Finset.univ fun x : Fin 2 × Fin 4 => iprop(∃ X, owns (c : Thread nD τ) (kBuf x.1 x.2) fullShare X) : sProp 𝕄) := by
  iintro ⟨%f, H⟩
  ihave H := (Entails.of_eq (Ring.pointsTo_blocks (ℓ := (c : Thread nD τ).loc cc0_scratch2) headSet head_disjoint head_cover f)) $$ H
  have h : (bigSep Finset.univ fun x : Fin 2 × Fin 4 => ((c : Thread nD τ).loc cc0_scratch2) ↦[headSet x]{fullShare} f : sProp 𝕄)
      ⊢ bigSep Finset.univ fun x : Fin 2 × Fin 4 => iprop(∃ X, owns (c : Thread nD τ) (kBuf x.1 x.2) fullShare X) :=
    bigSep_mono fun x _ => owns_some (c : Thread nD τ) (kBuf x.1 x.2) (headSet x) (k_set x) f
  iapply h; iexact H
theorem k_join (c : Dev nD) :
    (bigSep Finset.univ fun x : Fin 2 × Fin 4 => iprop(∃ X, owns (c : Thread nD τ) (kBuf x.1 x.2) fullShare X) : sProp 𝕄) ⊢ iprop(∃ f, ((c : Thread nD τ).loc cc0_scratch2) ↦{fullShare} f) := by
  have h : (bigSep Finset.univ fun x : Fin 2 × Fin 4 => iprop(∃ X, owns (c : Thread nD τ) (kBuf x.1 x.2) fullShare X) : sProp 𝕄)
      ⊢ bigSep Finset.univ fun x : Fin 2 × Fin 4 => iprop(∃ f, ((c : Thread nD τ).loc cc0_scratch2) ↦[headSet x]{fullShare} f) :=
    bigSep_mono fun x _ => some_owns (c : Thread nD τ) (kBuf x.1 x.2) (headSet x) (k_set x)
  iintro H
  ihave H := h $$ H
  iapply (Ring.pointsTo_blocks_join_exists (ℓ := (c : Thread nD τ).loc cc0_scratch2) headSet head_disjoint head_cover fun _ => Classical.choice ((inferInstance : ∀ e, Nonempty (Elt F e)) .f32))
  iexact H

omit [FloatOps F] [Named F] in
theorem v_split (c : Dev nD) :
    iprop(∃ f, ((c : Thread nD τ).loc cc0_scratch3) ↦{fullShare} f) ⊢ (bigSep Finset.univ fun x : Fin 2 × Fin 4 => iprop(∃ X, owns (c : Thread nD τ) (vBuf x.1 x.2) fullShare X) : sProp 𝕄) := by
  iintro ⟨%f, H⟩
  ihave H := (Entails.of_eq (Ring.pointsTo_blocks (ℓ := (c : Thread nD τ).loc cc0_scratch3) headSet head_disjoint head_cover f)) $$ H
  have h : (bigSep Finset.univ fun x : Fin 2 × Fin 4 => ((c : Thread nD τ).loc cc0_scratch3) ↦[headSet x]{fullShare} f : sProp 𝕄)
      ⊢ bigSep Finset.univ fun x : Fin 2 × Fin 4 => iprop(∃ X, owns (c : Thread nD τ) (vBuf x.1 x.2) fullShare X) :=
    bigSep_mono fun x _ => owns_some (c : Thread nD τ) (vBuf x.1 x.2) (headSet x) (v_set x) f
  iapply h; iexact H
theorem v_join (c : Dev nD) :
    (bigSep Finset.univ fun x : Fin 2 × Fin 4 => iprop(∃ X, owns (c : Thread nD τ) (vBuf x.1 x.2) fullShare X) : sProp 𝕄) ⊢ iprop(∃ f, ((c : Thread nD τ).loc cc0_scratch3) ↦{fullShare} f) := by
  have h : (bigSep Finset.univ fun x : Fin 2 × Fin 4 => iprop(∃ X, owns (c : Thread nD τ) (vBuf x.1 x.2) fullShare X) : sProp 𝕄)
      ⊢ bigSep Finset.univ fun x : Fin 2 × Fin 4 => iprop(∃ f, ((c : Thread nD τ).loc cc0_scratch3) ↦[headSet x]{fullShare} f) :=
    bigSep_mono fun x _ => some_owns (c : Thread nD τ) (vBuf x.1 x.2) (headSet x) (v_set x)
  iintro H
  ihave H := h $$ H
  iapply (Ring.pointsTo_blocks_join_exists (ℓ := (c : Thread nD τ).loc cc0_scratch3) headSet head_disjoint head_cover fun _ => Classical.choice ((inferInstance : ∀ e, Nonempty (Elt F e)) .f32))
  iexact H

omit [FloatOps F] [Named F] in
/-- A family over the eight copies, one after the other. -/
theorem copies_eq (Φ : Fin 2 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

/-- All sixteen copies idle, as one family; -/
theorem idle_intro (c : Dev nD) :
    (bigSep Finset.univ fun x : Fin 2 × Fin 4 => iprop(kIdle m c x.1 x.2 ∗ vIdle m c x.1 x.2)) ⊢ iprop(idleAll m c 0 ∗ idleAll m c 1) := by
  rw [copies_eq]; unfold idleAll
  iintro ⟨⟨A0, B0⟩, ⟨A1, B1⟩, ⟨A2, B2⟩, ⟨A3, B3⟩, ⟨A4, B4⟩, ⟨A5, B5⟩, ⟨A6, B6⟩, A7, B7⟩
  isplitl [A0 B0 A1 B1 A2 B2 A3 B3]
  · isplitl [A0]; · iexact A0
    isplitl [B0]; · iexact B0
    isplitl [A1]; · iexact A1
    isplitl [B1]; · iexact B1
    isplitl [A2]; · iexact A2
    isplitl [B2]; · iexact B2
    isplitl [A3]; · iexact A3
    iexact B3
  · isplitl [A4]; · iexact A4
    isplitl [B4]; · iexact B4
    isplitl [A5]; · iexact A5
    isplitl [B5]; · iexact B5
    isplitl [A6]; · iexact A6
    isplitl [B6]; · iexact B6
    isplitl [A7]; · iexact A7
    iexact B7
/-- and back. -/
theorem idle_elim (c : Dev nD) :
    iprop(idleAll m c 0 ∗ idleAll m c 1) ⊢ (bigSep Finset.univ fun x : Fin 2 × Fin 4 => iprop(kIdle m c x.1 x.2 ∗ vIdle m c x.1 x.2)) := by
  rw [copies_eq]; unfold idleAll
  iintro ⟨⟨A0, B0, A1, B1, A2, B2, A3, B3⟩, A4, B4, A5, B5, A6, B6, A7, B7⟩
  isplitl [A0 B0]; · isplitl [A0] <;> iassumption
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6 B6]; · isplitl [A6] <;> iassumption
  isplitl [A7] <;> iassumption

/-- The cells of the sixteen copies, at zero. -/
def headZeros (c : Dev nD) : sProp 𝕄 :=
  iprop((bigSep Finset.univ fun x : Fin 2 × Fin 4 => semVal ((c : Thread nD τ), .dma (ksem x.1 x.2)) 0)
    ∗ bigSep Finset.univ fun x : Fin 2 × Fin 4 => semVal ((c : Thread nD τ), .dma (vsem x.1 x.2)) 0)
/-- The shares of the replicated arrays lent to the copies. -/
def lent (c : Dev nD) : sProp 𝕄 :=
  iprop((bigSep Finset.univ fun x : Fin 2 × Fin 4 => ((c : Thread nD τ).loc main_arg2) ↦{tok x.1 x.2} m ((c : Thread nD τ).loc main_arg2))
    ∗ bigSep Finset.univ fun x : Fin 2 × Fin 4 => ((c : Thread nD τ).loc main_arg3) ↦{tok x.1 x.2} m ((c : Thread nD τ).loc main_arg3))
/-- What is left of the replicated arrays. -/
def kept (c : Dev nD) : sProp 𝕄 :=
  iprop((((c : Thread nD τ).loc main_arg2) ↦{Transfers.shareDrop fullShare 8} m ((c : Thread nD τ).loc main_arg2))
    ∗ (((c : Thread nD τ).loc main_arg3) ↦{Transfers.shareDrop fullShare 8} m ((c : Thread nD τ).loc main_arg3)))

omit [FloatOps F] [Named F] in
/-- The replicated arrays, lent out to the copies. -/
theorem lend (c : Dev nD) :
    iprop((((c : Thread nD τ).loc main_arg2) ↦{fullShare} m ((c : Thread nD τ).loc main_arg2)) ∗ (((c : Thread nD τ).loc main_arg3) ↦{fullShare} m ((c : Thread nD τ).loc main_arg3)))
      ⊢ iprop(kept m c ∗ lent m c) := by
  unfold kept lent
  iintro ⟨H2, H3⟩
  ihave H2 := (Transfers.pointsTo_toks_split (ℓ := (c : Thread nD τ).loc main_arg2) fullShare 8) $$ H2
  ihave H3 := (Transfers.pointsTo_toks_split (ℓ := (c : Thread nD τ).loc main_arg3) fullShare 8) $$ H3
  rw [bigSep_univ_equiv copyOf, bigSep_univ_equiv copyOf]
  icases H2 with ⟨A2, B2⟩
  icases H3 with ⟨A3, B3⟩
  isplitl [A2 A3]
  · isplitl [A2] <;> iassumption
  isplitl [B2]
  · iexact B2
  · iexact B3

omit [FloatOps F] [Named F] in
/-- The head buffers, the lent shares and the cells at zero are the sixteen copies idle; -/
theorem split_heads (c : Dev nD) :
    iprop((∃ f, ((c : Thread nD τ).loc cc0_scratch2) ↦{fullShare} f) ∗ (∃ f, ((c : Thread nD τ).loc cc0_scratch3) ↦{fullShare} f) ∗ lent m c ∗ headZeros c)
      ⊢ (bigSep Finset.univ fun x : Fin 2 × Fin 4 => iprop(kIdle m c x.1 x.2 ∗ vIdle m c x.1 x.2)) := by
  unfold kIdle vIdle lent headZeros
  simp only [bigSep_sep']
  iintro ⟨H0, H1, ⟨L0, L1⟩, Z0, Z1⟩
  isplitl [H0 L0 Z0]
  · isplitl [L0]; · iexact L0
    isplitl [H0]; · iapply (k_split c); iexact H0
    iexact Z0
  · isplitl [L1]; · iexact L1
    isplitl [H1]; · iapply (v_split c); iexact H1
    iexact Z1

/-- and back. -/
theorem join_heads (c : Dev nD) :
    (bigSep Finset.univ fun x : Fin 2 × Fin 4 => iprop(kIdle m c x.1 x.2 ∗ vIdle m c x.1 x.2))
      ⊢ iprop((∃ f, ((c : Thread nD τ).loc cc0_scratch2) ↦{fullShare} f) ∗ (∃ f, ((c : Thread nD τ).loc cc0_scratch3) ↦{fullShare} f) ∗ headZeros c) := by
  unfold kIdle vIdle headZeros
  simp only [bigSep_sep']
  iintro ⟨⟨-, H0, Z0⟩, -, H1, Z1⟩
  isplitl [H0]; · iapply (k_join c); iexact H0
  isplitl [H1]; · iapply (v_join c); iexact H1
  isplitl [Z0] <;> iassumption

/-! ## The buffer of contexts -/

omit [FloatOps F] [Named F] in
/-- Held at some contents it is held with nothing written yet, -/
theorem ctx_intro (c : Dev nD) : iprop(∃ f, ((c : Thread nD τ).loc cc0_scratch4) ↦{fullShare} f) ⊢ (ctxAt (F := F) c [] : sProp 𝕄) := by
  unfold ctxAt
  iintro ⟨%f, H⟩
  iexists f; iexact H
omit [FloatOps F] [Named F] in
/-- and back. -/
theorem ctx_elim (c : Dev nD) : (ctxAt (F := F) c [] : sProp 𝕄) ⊢ iprop(∃ f, ((c : Thread nD τ).loc cc0_scratch4) ↦{fullShare} f) := by
  unfold ctxAt
  iintro ⟨%f, H⟩
  iexists _; iexact H

end Cert.Stream

end
-- ==== Proof.Deal.lean ====
/-
  What the launch gives every device: the cells' invariants, its positions, the tokens of the units and transfers it
  pays with, dealt round the ring, and the credit for what the others owe its cells.
-/
module

public import proofs.«01_k».proof.Proof.Scratch

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The cells -/

/-- The kernel's own semaphores: those of the ring's transfers, and those of the copies of keys and of values. -/
abbrev Own := (Fin 4 × Fin 32) ⊕ ((Fin 2 × Fin 4) ⊕ (Fin 2 × Fin 4))
def osem : Own → SemLoc sig
  | .inl x => .dma (wsem x.1 x.2)
  | .inr (.inl x) => .dma (ksem x.1 x.2)
  | .inr (.inr x) => .dma (vsem x.1 x.2)

/-- The place of an own semaphore among the kernel's. -/
def osemAt : Own → Fin 148
  | .inl x => ⟨4 + 32 * x.1.val + x.2.val, by omega⟩
  | .inr (.inl x) => ⟨132 + 4 * x.1.val + x.2.val, by omega⟩
  | .inr (.inr x) => ⟨140 + 4 * x.1.val + x.2.val, by omega⟩
theorem osem_eq (k : Own) : osem k = .dma (osemAt k) := by rcases k with x | x | x <;> rfl
theorem osemAt_inj : Function.Injective osemAt := by
  rintro (⟨a, b⟩ | ⟨a, b⟩ | ⟨a, b⟩) (⟨a', b'⟩ | ⟨a', b'⟩ | ⟨a', b'⟩) h <;>
    (have h := congrArg Fin.val h
     simp only [osemAt] at h
     first
       | (exfalso; omega)
       | (have h1 : a = a' := Fin.ext (by omega)
          have h2 : b = b' := Fin.ext (by omega)
          rw [h1, h2]))
theorem osem_inj : Function.Injective osem := fun a b h => osemAt_inj (by
  rw [osem_eq, osem_eq] at h; exact SemLoc.dma.inj h)
theorem four_le (k : Own) : 4 ≤ (osemAt k).val := by
  rcases k with x | x | x <;> simp only [osemAt] <;> omega

theorem scoped_all : ∀ i : Fin 148, SemLoc.isScoped Kind.tc (.dma i : SemLoc sig) = true := by decide +kernel

theorem ownSemFacts : Pipeline.OwnSemFacts cfg0.spec osem where
  isScoped k := by rw [osem_eq]; exact scoped_all _
  inj := osem_inj
  disj := by
    intro k w s h
    have h4 := four_le k
    rw [osem_eq] at h
    have h := congrArg Fin.val (SemLoc.dma.inj h)
    revert h; generalize osemAt k = i at h4
    fin_cases w <;> fin_cases s <;> intro h <;> exact absurd h (fun e => by
      have : i.val < 4 := e ▸ (by decide)
      omega)

theorem kcell_injective : Function.Injective kcell := by
  rintro ⟨c, k⟩ ⟨c', k'⟩ h
  have h1 : c = c' := by
    rcases k with _ | ⟨k, t⟩ <;> rcases k' with _ | ⟨k', t'⟩ <;> exact congrArg (fun g : GSem nD τ sig => g.1.1) h
  subst h1
  rcases k with _ | ⟨k, t⟩ <;> rcases k' with _ | ⟨k', t'⟩
  · rfl
  · exact absurd (congrArg Prod.snd h) (fun e => by cases e)
  · exact absurd (congrArg Prod.snd h) (fun e => by cases e)
  · obtain ⟨rfl, rfl⟩ := wsem_inj (SemLoc.dma.inj (congrArg Prod.snd h))
    rfl

def ringCells : Finset (GSem nD τ sig) := Finset.univ.map ⟨kcell, kcell_injective⟩

/-- The duties of a device's own cells: the barrier's two, and one at every transfer cell. -/
abbrev Duty := Bool ⊕ (Fin 4 × Fin 32)
def dutyOf (x : Dev nD × Duty) : GSem nD τ sig × ℕ × Bool :=
  match x.2 with
  | .inl b => (barCell x.1, 0, b)
  | .inr y => (wcell x.1 y.1 y.2, 0, false)
theorem dutyOf_injective : Function.Injective dutyOf := by
  rintro ⟨c, k⟩ ⟨c', k'⟩ h
  have h1 : c = c' := by
    rcases k with _ | ⟨k, t⟩ <;> rcases k' with _ | ⟨k', t'⟩ <;> exact congrArg (fun g : GSem nD τ sig × ℕ × Bool => g.1.1.1) h
  subst h1
  rcases k with b | ⟨k, t⟩ <;> rcases k' with b' | ⟨k', t'⟩
  · have : b = b' := congrArg (fun g : GSem nD τ sig × ℕ × Bool => g.2.2) h
    rw [this]
  · exact absurd (congrArg (fun g : GSem nD τ sig × ℕ × Bool => g.1.2) h) (fun e => by cases e)
  · exact absurd (congrArg (fun g : GSem nD τ sig × ℕ × Bool => g.1.2) h) (fun e => by cases e)
  · obtain ⟨rfl, rfl⟩ := wsem_inj (SemLoc.dma.inj (congrArg (fun g : GSem nD τ sig × ℕ × Bool => g.1.2) h))
    rfl
def ringToks : Finset (GSem nD τ sig × ℕ × Bool) := Finset.univ.map ⟨dutyOf, dutyOf_injective⟩

def u₀ : UU :=
  (initOf (Pipeline.cells cfgs cellOf_inj) (Pipeline.launchToks cfgs cellOf_inj), (initOf ringCells ringToks, 1))

/-! ## Families over the cells -/

omit [FloatOps F] [Named F] in
/-- A family over a device's cells: the barrier's, and the transfers'. -/
theorem cells_eq (Φ : CI → sProp 𝕄) : bigSep Finset.univ Φ = iprop(Φ none ∗ bigSep Finset.univ fun x : Fin 4 × Fin 32 => Φ (some x)) := by
  have h : (Finset.univ : Finset CI) = insert none (Finset.univ.map ⟨some, Option.some_injective _⟩) := by
    ext x; rcases x with _ | x <;> simp
  rw [h, bigSep_ins (by simp), bigSep_map]
  rfl

omit [FloatOps F] [Named F] in
/-- A family over the transfer cells, family by family. -/
theorem four_eq (Φ : Fin 4 × Fin 32 → sProp 𝕄) : bigSep Finset.univ Φ
    = iprop((bigSep Finset.univ fun t : Fin 32 => Φ (0, t)) ∗ (bigSep Finset.univ fun t : Fin 32 => Φ (1, t)) ∗ (bigSep Finset.univ fun t : Fin 32 => Φ (2, t))
      ∗ (bigSep Finset.univ fun t : Fin 32 => Φ (3, t))) := by
  rw [bigSep_univ_prod]
  exact bigSep_univ_eq_bigSepL [0, 1, 2, 3] (by decide) (by decide) _

/-- What a family over the transfer cells leaves at the four cells no transfer uses, -/
def endsOf (Φ : Fin 4 → Fin 32 → sProp 𝕄) : sProp 𝕄 := iprop(Φ 0 31 ∗ Φ 1 0 ∗ Φ 2 31 ∗ Φ 3 0)
/-- and at those of step `s`. -/
def stepOf (Φ : Fin 4 → Fin 32 → sProp 𝕄) (s : Fin 31) : sProp 𝕄 := iprop(Φ 0 s.castSucc ∗ Φ 1 s.succ ∗ Φ 2 s.castSucc ∗ Φ 3 s.succ)

omit [FloatOps F] [Named F] in
/-- A family over the transfer cells, step by step; -/
theorem by_steps (Φ : Fin 4 → Fin 32 → sProp 𝕄) :
    (bigSep Finset.univ fun x : Fin 4 × Fin 32 => Φ x.1 x.2) ⊢ iprop(endsOf Φ ∗ bigSep Finset.univ (stepOf Φ)) := by
  rw [four_eq, steps_last, steps_first (fun t => Φ (1 : Fin 4) t), steps_last (fun t => Φ (2 : Fin 4) t), steps_first (fun t => Φ (3 : Fin 4) t)]
  unfold endsOf stepOf
  rw [bigSep_sep', bigSep_sep', bigSep_sep']
  iintro ⟨⟨A, A'⟩, ⟨B, B'⟩, ⟨C, C'⟩, D, D'⟩
  isplitl [A B C D]
  · isplitl [A]; · iexact A
    isplitl [B]; · iexact B
    isplitl [C] <;> iassumption
  · isplitl [A']; · iexact A'
    isplitl [B']; · iexact B'
    isplitl [C'] <;> iassumption

omit [FloatOps F] [Named F] in
/-- and back. -/
theorem from_steps (Φ : Fin 4 → Fin 32 → sProp 𝕄) :
    iprop(endsOf Φ ∗ bigSep Finset.univ (stepOf Φ)) ⊢ (bigSep Finset.univ fun x : Fin 4 × Fin 32 => Φ x.1 x.2) := by
  rw [four_eq, steps_last, steps_first (fun t => Φ (1 : Fin 4) t), steps_last (fun t => Φ (2 : Fin 4) t), steps_first (fun t => Φ (3 : Fin 4) t)]
  unfold endsOf stepOf
  rw [bigSep_sep', bigSep_sep', bigSep_sep']
  iintro ⟨⟨A, B, C, D⟩, A', B', C', D'⟩
  isplitl [A A']; · isplitl [A] <;> iassumption
  isplitl [B B']; · isplitl [B] <;> iassumption
  isplitl [C C']; · isplitl [C] <;> iassumption
  isplitl [D] <;> iassumption

/-! ## What the launch element deals -/

/-- The duty tokens of a device's own cells. -/
def ownToks (c : Dev nD) : sProp 𝕄 :=
  iprop((dutyTok ER (barCell c) 0 false ∗ dutyTok ER (barCell c) 0 true)
    ∗ bigSep Finset.univ fun x : Fin 4 × Fin 32 => dutyTok ER (wcell c x.1 x.2) 0 false)

/-- What a device is dealt before its cells' invariants are made, -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ ownToks c)

omit [FloatOps F] [Named F] in
theorem bools_eq (Φ : Bool → sProp 𝕄) : bigSep Finset.univ Φ = iprop(Φ false ∗ Φ true) := bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by
      unfold ownToks; rw [bigSep_univ_sum, bools_eq]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- The kernel's own semaphores are the transfers' cells and those of the copies of heads; -/
theorem ownSems0_eq (c : Dev nD) : (Pipeline.ownSems0 (Ix := Unit) (Name := ℕ) (U := UU) (Lvl := ℕ) (Val := Elt F) (τ := τ) osem c : sProp 𝕄)
    = iprop((bigSep Finset.univ fun x : Fin 4 × Fin 32 => semVal (wcell c x.1 x.2) 0) ∗ headZeros c) := by
  unfold Pipeline.ownSems0 headZeros
  rw [bigSep_univ_sum, bigSep_univ_sum]
  rfl
omit [FloatOps F] [Named F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ ownToks c ∗ headZeros c) := by
  unfold G
  rw [ownSems0_eq, unscopedSems0_eq]
  iintro ⟨⟨Hos, Hk⟩, Hus, Hst, Hat, Htok⟩
  ihave Hv := (Entails.of_eq (cells_eq (F := F) (fun k => semVal (kcell (c, k)) 0)).symm) $$ [Hos Hus]
  · isplitl [Hus]; · iexact Hus
    iexact Hos
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hk

/-! ## Round the ring -/

/-- The tokens a device pays with: its neighbours' barriers', and those of the transfers of every step. -/
def payToks (c : Dev nD) : sProp 𝕄 :=
  iprop((dutyTok ER (barCell (prv c)) 0 true ∗ dutyTok ER (barCell (nxt c)) 0 false) ∗ bigSep Finset.univ fun s : Fin 31 => toks (F := F) c s)

omit [FloatOps F] [Named F] in
/-- The tokens of a family of transfer cells, at every device and at every one's neighbour. -/
theorem around (Φ : Dev nD → sProp 𝕄) : bigSep Finset.univ Φ = bigSep Finset.univ fun c : Dev nD => Φ (nxt c) := bigSep_univ_equiv ring Φ
omit [FloatOps F] [Named F] in
theorem around' (Φ : Dev nD → sProp 𝕄) : bigSep Finset.univ Φ = bigSep Finset.univ fun c : Dev nD => Φ (prv c) := bigSep_univ_equiv ring.symm Φ

/-- The tokens of a device's own cells that somebody pays with. -/
def usedToks (c : Dev nD) : sProp 𝕄 :=
  iprop((dutyTok ER (barCell c) 0 false ∗ dutyTok ER (barCell c) 0 true)
      ∗ (bigSep Finset.univ fun s : Fin 31 => dutyTok ER (wcell c 0 s.castSucc) 0 false) ∗ (bigSep Finset.univ fun s : Fin 31 => dutyTok ER (wcell c 1 s.succ) 0 false)
        ∗ (bigSep Finset.univ fun s : Fin 31 => dutyTok ER (wcell c 2 s.castSucc) 0 false) ∗ (bigSep Finset.univ fun s : Fin 31 => dutyTok ER (wcell c 3 s.succ) 0 false))

omit [FloatOps F] [Named F] in
/-- The tokens dealt round the ring. -/
theorem toks_around : (bigSep Finset.univ fun c : Dev nD => (ownToks (F := F) c : sProp 𝕄)) ⊢ bigSep Finset.univ fun c : Dev nD => payToks (F := F) c := by
  have h : ∀ c : Dev nD, (bigSep Finset.univ fun x : Fin 4 × Fin 32 => (dutyTok ER (wcell c x.1 x.2) 0 false : sProp 𝕄))
      ⊢ iprop((bigSep Finset.univ fun s : Fin 31 => dutyTok ER (wcell c 0 s.castSucc) 0 false) ∗ (bigSep Finset.univ fun s : Fin 31 => dutyTok ER (wcell c 1 s.succ) 0 false)
        ∗ (bigSep Finset.univ fun s : Fin 31 => dutyTok ER (wcell c 2 s.castSucc) 0 false) ∗ (bigSep Finset.univ fun s : Fin 31 => dutyTok ER (wcell c 3 s.succ) 0 false)) := by
    intro c
    iintro H
    ihave H := (by_steps (F := F) fun k t => dutyTok ER (wcell c k t) 0 false) $$ H
    unfold stepOf
    rw [bigSep_sep', bigSep_sep', bigSep_sep']
    icases H with ⟨-, H⟩; iexact H
  have h' : ∀ c : Dev nD, (ownToks (F := F) c : sProp 𝕄) ⊢ usedToks (F := F) c := by
    intro c
    unfold ownToks usedToks
    iintro ⟨H, H'⟩
    isplitl [H]; · iexact H
    iapply (h c); iexact H'
  have h'' : (bigSep Finset.univ fun c : Dev nD => (ownToks (F := F) c : sProp 𝕄)) ⊢ bigSep Finset.univ fun c : Dev nD => usedToks (F := F) c :=
    bigSep_mono fun c _ => h' c
  iintro H
  ihave H := h'' $$ H
  unfold usedToks
  unfold payToks toks
  simp only [bigSep_sep']
  icases H with ⟨⟨HF, HT⟩, H0, H1, H2, H3⟩
  ihave HF := (Entails.of_eq (around (F := F) fun c => dutyTok ER (barCell c) 0 false)) $$ HF
  ihave HT := (Entails.of_eq (around' (F := F) fun c => dutyTok ER (barCell c) 0 true)) $$ HT
  ihave H1 := (Entails.of_eq (around (F := F) fun c => bigSep Finset.univ fun s : Fin 31 => dutyTok ER (wcell c 1 s.succ) 0 false)) $$ H1
  ihave H3 := (Entails.of_eq (around (F := F) fun c => bigSep Finset.univ fun s : Fin 31 => dutyTok ER (wcell c 3 s.succ) 0 false)) $$ H3
  isplitl [HF HT]
  · isplitl [HT]; · iexact HT
    iexact HF
  isplitl [H0]; · iexact H0
  isplitl [H1]; · iexact H1
  isplitl [H2]; · iexact H2
  iexact H3

/-- What a device holds for itself. -/
def linear (c : Dev nD) : sProp 𝕄 :=
  iprop((bigSep Finset.univ fun k : CI => atPos ER (kcell (c, k)) 0 ∅ 0) ∗ payToks (F := F) c ∗ headZeros (F := F) c)

/-- The ghost state a device's body starts from, under the names `K`. -/
def ghost (K : Dev nD × CI → ℕ) (c : Dev nD) : sProp 𝕄 :=
  iprop(records m K ∗ (atPos ER (barCell c) 0 ∅ 0 ∗ dutyTok ER (barCell (prv c)) 0 true ∗ dutyTok ER (barCell (nxt c)) 0 false)
    ∗ unusedAts (F := F) c ∗ (bigSep Finset.univ fun s : Fin 31 => toks (F := F) c s) ∗ (bigSep Finset.univ fun s : Fin 31 => ats (F := F) c s) ∗ headZeros (F := F) c)
/-- That, at some names. -/
def G' (c : Dev nD) : sProp 𝕄 := iprop(∃ K, ghost m K c)

theorem ghost_intro (K : Dev nD × CI → ℕ) (c : Dev nD) : iprop(records m K ∗ linear (F := F) c) ⊢ G' m c := by
  unfold linear payToks G' ghost
  iintro ⟨#HR, Hat, ⟨⟨HtP, HtN⟩, Htoks⟩, Hz⟩
  ihave Hat := (Entails.of_eq (cells_eq (F := F) (fun k => atPos ER (kcell (c, k)) 0 ∅ 0))) $$ Hat
  icases Hat with ⟨HatB, Hat⟩
  ihave Hat := (show (bigSep Finset.univ fun x : Fin 4 × Fin 32 => (atPos ER (kcell (c, some x)) 0 ∅ 0 : sProp 𝕄)) ⊢ _ from
    by_steps (F := F) fun k t => atPos ER (wcell c k t) 0 ∅ 0) $$ Hat
  icases Hat with ⟨Hends, Hats⟩
  iexists K
  isplitr; · iexact HR
  isplitl [HatB HtP HtN]
  · isplitl [HatB]; · iexact HatB
    isplitl [HtP] <;> iassumption
  isplitl [Hends]; · unfold unusedAts endsOf; iexact Hends
  isplitl [Htoks]; · iexact Htoks
  isplitl [Hats]; · iexact Hats
  iexact Hz

omit [FloatOps F] [Named F] in
/-- A persistent fact serves every member of a family. -/
theorem share_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ ownToks (F := F) c ∗ headZeros (F := F) c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hz⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (share_persistent (R := records m K) fun c _ => ghost_intro m K c)
  isplitr
  · unfold records; isplitl; · iexact HI
    iexact HR
  · unfold linear; rw [bigSep_sep', bigSep_sep']
    isplitl [Hat]; · iexact Hat
    isplitl [Htk]; · iexact Htk
    iexact Hz

/-- All the devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Stream

end
-- ==== Proof.Credit.lean ====
/-
  The credit a device starts with: what its two neighbours owe its barrier, and what the device before it owes the cells
  its weight blocks land at.
-/
module

public import proofs.«01_k».proof.Proof.Deal

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem wcell_iff {a b : Dev nD} {k k' : Fin 4} {t t' : Fin 32} : wcell a k t = wcell b k' t' ↔ a = b ∧ k = k' ∧ t = t' := by
  constructor
  · intro h
    have h1 : a = b := congrArg (fun g : GSem nD τ sig => g.1.1) h
    obtain ⟨h2, h3⟩ := wsem_inj (SemLoc.dma.inj (congrArg Prod.snd h))
    exact ⟨h1, h2, h3⟩
  · rintro ⟨rfl, rfl, rfl⟩; rfl
theorem barCell_iff {a b : Dev nD} : barCell a = barCell b ↔ a = b :=
  ⟨fun h => congrArg (fun g : GSem nD τ sig => g.1.1) h, fun h => h ▸ rfl⟩
theorem wcell_off_bar {a b : Dev nD} {k : Fin 4} {t : Fin 32} : wcell a k t ≠ barCell b := fun h => by
  have := congrArg Prod.snd h; cases this
theorem nxt_eq_iff {d c : Dev nD} : c = nxt d ↔ d = prv c :=
  ⟨fun h => by rw [h, prv_nxt], fun h => by rw [h, nxt_prv]⟩
theorem prv_eq_iff {d c : Dev nD} : c = prv d ↔ d = nxt c :=
  ⟨fun h => by rw [h, nxt_prv], fun h => by rw [h, prv_nxt]⟩

/-- What device `d` owes the cells of device `c`: the one before it the two blocks of every slot but the first, -/
theorem owed_at (d c : Dev nD) (k : Fin 4) (hk : k = 1 ∨ k = 3) (s : Fin 31) :
    O₀ d (wcell c k s.succ) () = if d = prv c then (if k = 1 then Nq else No) else 0 := by
  unfold O₀ O₁ owed
  rw [Pi.add_apply, Finsupp.add_apply, Pi.add_apply, Finsupp.add_apply, tallyAt_ne_cell wcell_off_bar, tallyAt_ne_cell wcell_off_bar,
    Finsupp.zero_apply, Nat.add_zero, Nat.add_zero, Finset.filter_true_of_mem (fun s _ => Nat.zero_le _), Finset.sum_apply, Finsupp.finset_sum_apply]
  simp only [Pi.add_apply, Finsupp.add_apply, tallyAt_apply, wcell_iff, nxt_eq_iff, _root_.and_true, Fin.succ_inj]
  by_cases h : d = prv c
  · subst h
    rcases hk with rfl | rfl <;> simp
  · simp [h]

/-- and both neighbours its barrier a unit. -/
theorem owed_bar (d c : Dev nD) : O₀ d (barCell c) () = (if d = prv c then 1 else 0) + (if d = nxt c then 1 else 0) := by
  unfold O₀ O₁ owed
  rw [Pi.add_apply, Finsupp.add_apply, Pi.add_apply, Finsupp.add_apply, Finset.sum_apply, Finsupp.finset_sum_apply]
  rw [Finset.sum_eq_zero fun s _ => by
    rw [Pi.add_apply, Finsupp.add_apply, tallyAt_ne_cell (Ne.symm wcell_off_bar), tallyAt_ne_cell (Ne.symm wcell_off_bar)]; rfl, Nat.zero_add]
  rw [tallyAt_apply, tallyAt_apply]
  congr 1
  · exact if_congr (by rw [barCell_iff, nxt_eq_iff]; exact ⟨fun h => h.1, fun h => ⟨h, rfl⟩⟩) rfl rfl
  · exact if_congr (by rw [barCell_iff, prv_eq_iff]; exact ⟨fun h => h.1, fun h => ⟨h, rfl⟩⟩) rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (k : Fin 4) (hk : k = 1 ∨ k = 3) (s : Fin 31) :
    tallyOn (wcell c k s.succ) (launchCredit (Pipeline.owing O₀) 0 (wcell c k s.succ))
      = (tallyAt (wcell c k s.succ) () (if k = 1 then Nq else No) : CellTallies nD τ sig Unit) := by
  unfold tallyAt; refine congrArg _ (Finsupp.ext fun u => ?_); cases u
  rw [Pipeline.launchCredit_owing, Finsupp.single_eq_same, Finset.sum_congr rfl fun d _ => owed_at d c k hk s,
    Finset.sum_ite_eq' Finset.univ (prv c) fun _ => if k = 1 then Nq else No, if_pos (Finset.mem_univ _)]

/-- The cells the weight blocks land at, two for every step. -/
def landing (x : Fin 31 × Bool) : SemLoc sig := .dma (wsem (if x.2 then 3 else 1) x.1.succ)
theorem landing_inj : Function.Injective landing := by
  rintro ⟨s, a⟩ ⟨s', a'⟩ h
  obtain ⟨h1, h2⟩ := wsem_inj (SemLoc.dma.inj h)
  have h2 := Fin.succ_inj.mp h2
  subst h2
  cases a <;> cases a' <;> first | rfl | exact absurd (show _ = _ from h1) (show ¬ ((_ : Fin 4) = _) from by simp)

/-- What a device starts with in credit. -/
def credits (c : Dev nD) : sProp 𝕄 := iprop(cred (tallyAt (barCell c) () 2) ∗ bigSep Finset.univ fun s : Fin 31 => inCreds (F := F) c s)

theorem creds (c : Dev nD) : (Pipeline.launchCred O₀ c : sProp 𝕄) ⊢ credits (F := F) c := by
  unfold Pipeline.launchCred credits
  rw [bigSep_univ_at _ (SemLoc.reg barS), launch_bar]
  refine sep_mono_right ?_
  refine Idealize.SL.BI.BIBase.Entails.trans (bigSep_subset (t := Finset.univ.map ⟨landing, landing_inj⟩) ?_) ?_
  · intro x hx
    obtain ⟨y, -, rfl⟩ := Finset.mem_map.mp hx
    exact Finset.mem_erase.mpr ⟨(fun h => by cases h), Finset.mem_univ _⟩
  · rw [bigSep_map, bigSep_univ_prod]
    refine bigSep_mono fun s _ => ?_
    rw [bools_eq]
    unfold inCreds
    rw [← show tallyOn (wcell c 1 s.succ) (launchCredit (Pipeline.owing O₀) 0 (wcell c 1 s.succ)) = (tallyAt (wcell c 1 s.succ) () Nq : CellTallies nD τ sig Unit) from
        launch_recv c 1 (Or.inl rfl) s,
      ← show tallyOn (wcell c 3 s.succ) (launchCredit (Pipeline.owing O₀) 0 (wcell c 3 s.succ)) = (tallyAt (wcell c 3 s.succ) () No : CellTallies nD τ sig Unit) from
        launch_recv c 3 (Or.inr rfl) s]
    exact Entails.refl _

end Cert.Stream

end
-- ==== Proof.Launch.lean ====
/-
  The kernel's run: the pipeline's proof data, the body's obligation, and what every weakly fair execution of the launch
  ends with — the result arrays at the sum the body computes, every operand unchanged, every semaphore at zero.
-/
module

public import proofs.«01_k».proof.Proof.Credit
public import Idealize.ShloMosaic.Lib.Pipeline.FrameBody
public import Idealize.ShloMosaic.Lib.Pipeline.CollectiveSegs
public import Idealize.ShloMosaic.Lib.Pipeline.ValueKit

@[expose] public section

noncomputable section

namespace Cert.Stream

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

/-- What a device's one point starts from beside the scratch buffers. -/
def start (c : Dev nD) : sProp 𝕄 := iprop(G' m c ∗ credits (F := F) c ∗ levAts L lv ∗ lent m c)
/-- The scratch buffers, each at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))
def Φ₀ (c : Dev nD) : sProp 𝕄 := iprop(start m c ∗ scratch (F := F) c)
def Φ₁ (c : Dev nD) : sProp 𝕄 := bodyOut m c

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => acc m c 32
  Φ t := match t with
    | ⟨0, _⟩ => Φ₀ m c
    | ⟨_ + 1, _⟩ => Φ₁ m c
  q _ := fullShare
  owed t := match t with
    | ⟨0, _⟩ => O₀ c
    | ⟨_ + 1, _⟩ => 0

def t₀ : Fin cfg0.N := ⟨0, by rw [show cfg0.N = 1 from N_0]; decide⟩
theorem fin_N (t : Fin cfg0.N) : t = t₀ := by
  obtain ⟨t, ht⟩ := t; have : cfg0.N = 1 := N_0; exact Fin.ext (by simp only [t₀]; omega)

/-! ## The body's obligation -/

/-- From what the launch gives to what the body takes. -/
theorem start_body (c : Dev nD) : Φ₀ m c ⊢ iprop(∃ K, bodyIn m K c) := by
  unfold Φ₀ start G' ghost credits scratch bodyIn
  iintro ⟨⟨⟨%K, #HR, ⟨HatB, HtP, HtN⟩, Hends, Htoks, Hats, Hz⟩, ⟨HcB, Hcr⟩, #Hlev, Hlent⟩, S0, S1, S2, S3, S4⟩
  ihave Hw := (split_weights (F := F) c) $$ [S0 S1]
  · isplitl [S0] <;> iassumption
  ihave Hw := (Entails.of_eq (steps_first (F := F) (spentSlots c))) $$ Hw
  icases Hw with ⟨Hw0, Hw⟩
  ihave Hh := (split_heads m c) $$ [S2 S3 Hlent Hz]
  · isplitl [S2]; · iexact S2
    isplitl [S3]; · iexact S3
    isplitl [Hlent] <;> iassumption
  ihave Hh := (idle_intro m c) $$ Hh
  icases Hh with ⟨HI0, HI1⟩
  ihave HC := (ctx_intro (F := F) c) $$ S4
  iexists K
  isplitr; · iexact HR
  isplitr; · iexact Hlev
  isplitl [HatB HtP HtN HcB]
  · isplitl [HatB]; · iexact HatB
    isplitl [HtP]; · iexact HtP
    isplitl [HtN]; · iexact HtN
    iexact HcB
  isplitl [Hends]; · iexact Hends
  isplitl [Htoks Hcr Hats]
  · rw [bigSep_sep', bigSep_sep']
    isplitl [Htoks]; · iexact Htoks
    isplitl [Hcr]; · iexact Hcr
    iexact Hats
  isplitl [Hw]; · iexact Hw
  isplitl [Hw0]; · iexact Hw0
  isplitl [HI0]; · iexact HI0
  isplitl [HI1]; · iexact HI1
  iexact HC

/-- A staging buffer whole, at the contents `X`. -/
def stg (c : Dev nD) (b : Ref sig .tc) (X : b.ty.Contents (Elt F)) : sProp 𝕄 :=
  owns (c : Thread nD τ) (Memref.whole b) fullShare X
omit [FloatOps F] [Named F] in
theorem stg_out (c : Dev nD) (b : Ref sig .tc) (X : b.ty.Contents (Elt F)) : (stg c b X : sProp 𝕄) ⊢ held c b X := by
  unfold stg owns held; simp only [Memref.view_whole, View.read_whole, View.set_whole]
  iintro ⟨%f, %hf, H⟩
  subst hf; iexact H
omit [FloatOps F] [Named F] in
theorem stg_in (c : Dev nD) (b : Ref sig .tc) (X : b.ty.Contents (Elt F)) : (held c b X : sProp 𝕄) ⊢ stg c b X := by
  unfold stg owns held; simp only [Memref.view_whole, View.read_whole, View.set_whole]
  iintro H
  iexists X
  isplitr; · ipureintro; rfl
  iexact H

theorem before_0 (c : Dev nD) (t : Fin cfg0.N) (d) : (dats m 0 c).before 0 t d = xIn m c := by
  rw [fin_N t]
  exact ((dats m 0 c).before_in_eq_fetched 0 rfl (fun _ => rfl) (fun _ _ _ => rfl) (fun t => by rw [fin_N t]; rfl) t₀ d).trans rfl
theorem before_1 (c : Dev nD) (t : Fin cfg0.N) (d) : (dats m 0 c).before 1 t d = wqIn m c := by
  rw [fin_N t]
  exact ((dats m 0 c).before_in_eq_fetched 1 rfl (fun _ => rfl) (fun _ _ _ => rfl) (fun t => by rw [fin_N t]; rfl) t₀ d).trans rfl
theorem before_2 (c : Dev nD) (t : Fin cfg0.N) (d) : (dats m 0 c).before 2 t d = woIn m c := by
  rw [fin_N t]
  exact ((dats m 0 c).before_in_eq_fetched 2 rfl (fun _ => rfl) (fun _ _ _ => rfl) (fun t => by rw [fin_N t]; rfl) t₀ d).trans rfl

/-- What the body is handed, -/
def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
/-- and what it hands back. -/
def bodyPost (c : Dev nD) : sProp 𝕄 :=
  iprop(Φ₁ m c ∗ (dats m 0 c).owesAt () t₀.succ ∗ stg c cc0_stg0_0 (xIn m c) ∗ stg c cc0_stg1_0 (wqIn m c) ∗ stg c cc0_stg2_0 (woIn m c) ∗ stg c cc0_stg3_0 (acc m c 32))

set_option maxRecDepth 4000 in
theorem body_obligation (c : Dev nD) : BodyObligation (dats (F := F) m 0 c) (defs₀ (F := F)) 𝒱₀ () Set.univ := fun t => by
  rw [fin_N t]
  rw [bigSep_W0, bigSep_W0]
  show bodyPre m c ⊢ wp frame (wpE (defs₀ (F := F)) 𝒱₀ c none) Set.univ
    (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10)
    (fun _ => bodyPost m c)
  unfold bodyPre
  iintro ⟨HΦ, Ho, ⟨%d0, H0⟩, ⟨%d1, H1⟩, ⟨%d2, H2⟩, %d3, H3⟩
  simp only [before_0, before_1, before_2]
  unfold Dat.owesAt Pipeline.owesWithin
  icases Ho with ⟨%W, -, HO⟩
  ihave H0 := (stg_out c cc0_stg0_0 _) $$ H0
  ihave H1 := (stg_out c cc0_stg1_0 _) $$ H1
  ihave H2 := (stg_out c cc0_stg2_0 _) $$ H2
  ihave H3 := (stg_out c cc0_stg3_0 _) $$ H3
  ihave HΦ := (start_body m c) $$ HΦ
  icases HΦ with ⟨%K, HB⟩
  iapply (body_ok m K c) $$ [HB HO H0 H1 H2 H3]
  · isplitl [HB]; · iexact HB
    isplitl [HO]; · iexists W; iexact HO
    isplitl [H0]; · iexact H0
    isplitl [H1]; · iexact H1
    isplitl [H2]; · iexact H2
    iexists _; unfold outAt; unfold held; iexact H3
  iintro ⟨HB, ⟨%W', HO⟩, H0, H1, H2, H3⟩
  unfold bodyPost Φ₁ Dat.owesAt Pipeline.owesWithin
  rw [show (dats m 0 c).owed t₀.succ = 0 from rfl]
  isplitl [HB]; · iexact HB
  isplitl [HO]
  · iexists W'
    isplitr; · ipureintro; exact fun _ _ => Or.inl trivial
    iexact HO
  isplitl [H0]; · iapply (stg_in c cc0_stg0_0); iexact H0
  isplitl [H1]; · iapply (stg_in c cc0_stg1_0); iexact H1
  isplitl [H2]; · iapply (stg_in c cc0_stg2_0); iexact H2
  iapply (stg_in c cc0_stg3_0); unfold outAt held; iexact H3

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, show cfg0.spec = spec0 from rfl, unscopedRest0_eq]
  iintro ⟨Harr, Hlev, Hcr, -, HG⟩
  ihave Hc := (creds (F := F) c) $$ Hcr
  ihave Hl := (lend m c) $$ Harr
  icases Hl with ⟨Hk, Hl⟩
  imodintro
  unfold start
  isplitr [Hk]
  · isplitl [HG]; · iexact HG
    isplitl [Hc]; · iexact Hc
    isplitl [Hlev] <;> iassumption
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, show cfg0.spec = spec0 from rfl, scopedRest0_eq, ownSems0_eq, unscopedSems0_eq]
  unfold Φ₁ bodyOut spent
  rw [bigSep_sep']
  iintro ⟨HB, Hu, ⟨Hs, Hz⟩, H31, HI0, HI1, HC⟩
  ihave Hw := (Entails.of_eq (steps_last (F := F) (spentSlots c)).symm) $$ [Hs H31]
  · isplitl [H31] <;> iassumption
  ihave Hw := (join_weights (F := F) c) $$ Hw
  icases Hw with ⟨S0, S1⟩
  ihave Hh := (idle_elim m c) $$ [HI0 HI1]
  · isplitl [HI0] <;> iassumption
  ihave Hh := (join_heads m c) $$ Hh
  icases Hh with ⟨S2, S3, Hk⟩
  ihave S4 := (ctx_elim (F := F) c) $$ HC
  ihave Hz := (from_steps (F := F) fun k t => semVal (wcell c k t) 0) $$ [Hu Hz]
  · isplitl [Hu]; · unfold endsOf; unfold unusedZeros; iexact Hu
    iexact Hz
  isplitl [HB]; · iexact HB
  isplitl [Hz Hk]
  · isplitl [Hz] <;> iassumption
  isplitl [S0]; · iexact S0
  isplitl [S1]; · iexact S1
  isplitl [S2]; · iexact S2
  isplitl [S3]; · iexact S3
  iexact S4

theorem waits (c : Dev nD) : (levAts L lv : sProp 𝕄) ⊢ Pipeline.cellsWaits cfgs (dats m) () 0 c :=
  Pipeline.cellsWaits_intro cfgs (dats m) () 0 c fun w s t =>
    mayWait_O₀ c _ (by fin_cases w <;> fin_cases s <;> exact lv_other c (by decide) (by decide) ()) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- What the kernel leaves: every window's array at its final contents, and the replicated arrays as they were. -/
def QC (r : PUnit × MemSt nD τ sig (Elt F)) : Prop :=
  (∀ (c : Dev nD) (w : Fin cfg0.W), r.2.mem ((cfg0.win w).arr.view.loc (c : Thread nD τ)) = finalA m c w)
    ∧ ∀ c : Dev nD, r.2.mem ((c : Thread nD τ).loc main_arg2) = m ((c : Thread nD τ).loc main_arg2)
      ∧ r.2.mem ((c : Thread nD τ).loc main_arg3) = m ((c : Thread nD τ).loc main_arg3)

/-- What is kept of the replicated arrays says what they hold. -/
theorem kept_read (c : Dev nD) (s' : Phys nD τ sig (Elt F)) :
    iprop(kept m c ∗ SI s') ⊢ (⌜s'.mem.mem ((c : Thread nD τ).loc main_arg2) = m ((c : Thread nD τ).loc main_arg2)
      ∧ s'.mem.mem ((c : Thread nD τ).loc main_arg3) = m ((c : Thread nD τ).loc main_arg3)⌝ : sProp 𝕄) := by
  unfold kept
  iintro ⟨⟨H2, H3⟩, HSI⟩
  ihave H := (persistent_entails_right SI_pointsTo_agree) $$ [HSI H2]
  · isplitl [HSI] <;> iassumption
  icases H with ⟨%h2, HSI, H2⟩
  ihave H := (SI_pointsTo_agree) $$ [HSI H3]
  · isplitl [HSI] <;> iassumption
  icases H with %h3
  ipureintro
  exact ⟨funext fun i => h2 i (Finset.mem_univ i), funext fun i => h3 i (Finset.mem_univ i)⟩

set_option maxRecDepth 8000 in
/-- From any memory with zero counters, every weakly fair execution of the kernel on the thirty-two devices terminates, and
    every final state has the result arrays at the computed contents, the operands unchanged and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR (initOf ringCells ringToks, (1 : Counters))) ⊢ (BI.own (ER (initOf ringCells ringToks)) : sProp 𝕄) from Entails.of_eq rfl) $$ HX
      imod (fund_ring m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨Hu, Hk, HSI⟩
      ihave H := (persistent_entails_right (kept_read m c s')) $$ [Hk HSI]
      · isplitl [Hk] <;> iassumption
      icases H with ⟨%hk, -, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hk⟩
      iexact HSI)
    (hQ := fun _ h hs => ⟨⟨fun c w => (h c).1 w, fun c => (h c).2.2.2⟩, sem_eq_zero hs fun c => (h c).2.2.1⟩)

/-- The staged operands' arrays hold at the end what they held. -/
theorem finalA_x (c : Dev nD) : finalA m c (0 : Fin 4) = m ((c : Thread nD τ).loc main_arg0) := (dats (F := F) m 0 c).arrAt_in (0 : Fin 4) rfl _
theorem finalA_wq (c : Dev nD) : finalA m c (1 : Fin 4) = m ((c : Thread nD τ).loc main_arg1) := (dats (F := F) m 0 c).arrAt_in (1 : Fin 4) rfl _
theorem finalA_wo (c : Dev nD) : finalA m c (2 : Fin 4) = m ((c : Thread nD τ).loc main_arg4) := (dats (F := F) m 0 c).arrAt_in (2 : Fin 4) rfl _

/-- The result's array holds at the end the sum over the 32 trips. -/
theorem finalA_out (c : Dev nD) : finalA m c (3 : Fin 4) = acc m c 32 := by
  refine (dats (F := F) m 0 c).arrAt_eq_of_after_last (3 : Fin 4) t₀ (by decide +kernel) _ fun j => ?_
  blk_simp
  rfl

end Cert.Stream

end
-- ==== Proof.Same.lean ====
/-
  The program as written and the program whose mask is a named constant are one and the same at machine floats, once the
  name is read as the bits it was given to: so a run proved of the second is a run of the first.
-/
module

public import proofs.«01_k».proof.Proof.Launch
public import proofs.«01_k».proof.Proof.Gen.Kernel
public import proofs.«01_k».proof.Defs

@[expose] public section

namespace Cert.Stream

open Idealize.ShloMosaic Idealize.SL.Sem
open Idealize.ShloMosaic.TcCoe

/-- At machine floats a named constant is the bits it was given to. -/
@[reducible] def namedBits : Named Bits where
  named _ _ {φ} bits := (Scalar.ofBits (F := Bits) φ bits)

section
variable [hK : Cert.Kernel.Facts] [hI : Cert.KernelIdeal.Facts]

/-- The two programs have the same bodies. -/
theorem bodies_same : Kernel.defs₀ (F := Bits) = (letI := namedBits; KernelIdeal.defs₀ (F := Bits)) := by
  unfold Kernel.defs₀ KernelIdeal.defs₀
  refine congrArg Defs.onTc (funext fun l => funext fun a => ?_)
  match l, a with
  | ⟨0, _⟩, (t, s) => rfl

/-- So their pipelines unfold to the same programs. -/
theorem defs_same : Kernel.defs (F := Bits) = (letI := namedBits; KernelIdeal.defs (F := Bits)) :=
  congrArg (Pipeline.defs (Kernel.pcfgs (F := Bits))) bodies_same
end

/-- The run, with the operands' arrays read by their names: they are unchanged, the result holds the sum of the trips. -/
theorem run_named {F : FTy → Type} [FloatOps F] [Named F]
    (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD, r.2.mem ((c : Thread KernelIdeal.nD KernelIdeal.τ).loc KernelIdeal.main_v1) = acc m c 32
        ∧ r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)
        ∧ r.2.mem ((c : Thread KernelIdeal.nD KernelIdeal.τ).loc KernelIdeal.main_arg3) = m ((c : Thread KernelIdeal.nD KernelIdeal.τ).loc KernelIdeal.main_arg3)
        ∧ r.2.mem ((c : Thread KernelIdeal.nD KernelIdeal.τ).loc KernelIdeal.main_arg4) = m ((c : Thread KernelIdeal.nD KernelIdeal.τ).loc KernelIdeal.main_arg4))
      ∧ r.2.sem = fun _ => 0) :=
  (θ_run _ _ _).mono (fun _ h => ⟨fun c => ⟨(h.1.1 c (3 : Fin 4)).trans (finalA_out m c), (h.1.1 c (0 : Fin 4)).trans (finalA_x m c),
    (h.1.1 c (1 : Fin 4)).trans (finalA_wq m c), (h.1.2 c).1, (h.1.2 c).2, (h.1.1 c (2 : Fin 4)).trans (finalA_wo m c)⟩, h.2⟩) (run_main m ρ)

/-- The program as written runs, leaves its arguments unchanged, and every semaphore at zero. -/
theorem frame_kernel : Cert.quiescent_Kernel := fun m g _ => by
  rw [defs_same]
  letI := namedBits
  exact (θ_run _ _ _).mono (fun _ h => ⟨fun c => (h.1 c).2, h.2⟩) (run_named (F := Bits) m g)

/-- So does the program with the named constant, over the extended reals. -/
theorem frame_ideal : Cert.quiescent_KernelIdeal := fun m g _ =>
  (θ_run _ _ _).mono (fun _ h => ⟨fun c => (h.1 c).2, h.2⟩) (run_named (F := Ideal) m g)

end Cert.Stream
-- ==== Proof.Read.lean ====
/-
  The kernel's values read at an index, over the extended reals: the operands, the mask, the context of a head, and what
  a trip adds to the result.
-/
module

public import proofs.«01_k».proof.Proof.Vals
public import Idealize.ShloMosaic.Lib.Pointwise
public import Idealize.ShloMosaic.Lib.Pipeline.ValueKit

@[expose] public section

noncomputable section

namespace Cert.Stream

open Cert.KernelIdeal Cert.KernelIdeal.Gen

open Idealize.ShloMosaic
open Idealize.ShloMosaic.TcCoe

variable (m : (ℓ : Loc nD τ sig) → Buf (Elt Ideal) ℓ)

set_option maxRecDepth 16384

/-! ## The mask -/

/-- The kernel's quotient of a row number by 64, with a correction for signs that never applies. -/
theorem pay15_apply (r k : Fin 256) : k0_pay15 (ix2 r k) = BitVec.ofNat 32 (r.val / 64) := by
  have h : ∀ r : Fin 256, k0_pay15 (ix2 r 0) = BitVec.ofNat 32 (r.val / 64) := by decide +kernel
  exact h r

/-- The same quotient of a column number. -/
theorem quotient_col (k : Fin 256) : Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 k.val) 64#32) 0#32))
        (IntOp.subi (IntOp.divsi ArithUnit.vector (BitVec.ofNat 32 k.val) 64#32) 1#32)
        (IntOp.divsi ArithUnit.vector (BitVec.ofNat 32 k.val) 64#32) = BitVec.ofNat 32 (k.val / 64) := by
  revert k; decide +kernel

/-- The mask is zero where row and column lie in the same block of 64, minus infinity elsewhere. -/
theorem bias_apply (r k : Fin 256) : bias (F := Ideal) (ix2 r k) = if r.val / 64 = k.val / 64 then 0 else ⊥ := by
  pointwise [bias, k0_pay18, k0_pay16, k0_pay17]
  rw [quotient_col, pay15_apply]
  have hn : (Named.named (F := Ideal) κ "mask" (φ := .f32) 0xCE6E6B28#32 : EReal) = ⊥ := rfl
  have he : ∀ a b : Fin 4, (IntOp.cmpi CmpIPredicate.eq (BitVec.ofNat 32 a.val) (BitVec.ofNat 32 b.val) = 1#1) ↔ a.val = b.val := by decide
  have := he ⟨r.val / 64, by omega⟩ ⟨k.val / 64, by omega⟩
  simp only [] at this
  unfold Scalar.select
  by_cases h : r.val / 64 = k.val / 64
  · rw [if_pos h]; exact if_pos (this.mpr h)
  · rw [if_neg h]; exact (if_neg (fun e => h (this.mp e))).trans hn

/-! ## The operands -/

/-- The blocks the kernel is given are the whole arrays. -/
theorem xIn_eq (c : Dev nD) : xIn m c = m ((c : Thread nD τ).loc main_arg0) := by
  have h : win0_0.index (0 : Fin 1) = ![0, 0, 0] := by decide +kernel
  funext y
  blk_ext [xIn, h]
theorem wqIn_eq (c : Dev nD) : wqIn m c = m ((c : Thread nD τ).loc main_arg1) := by
  have h : win0_1.index (0 : Fin 1) = ![0, 0] := by decide +kernel
  funext y
  blk_ext [wqIn, h]
theorem woIn_eq (c : Dev nD) : woIn m c = m ((c : Thread nD τ).loc main_arg4) := by
  have h : win0_2.index (0 : Fin 1) = ![0, 0] := by decide +kernel
  funext y
  blk_ext [woIn, h]

/-- The activations of a device, flattened to 256 rows. -/
theorem xv_apply (c : Dev nD) (r : Fin 256) (e : Fin 512) :
    xv m c (ix2 r e) = m ((c : Thread nD τ).loc main_arg0) (ix3 (⟨r.val / 128, by omega⟩ : Fin 2) (⟨r.val % 128, by omega⟩ : Fin 128) e) := by
  pointwise [xv, xIn_eq, k0_pay14]

/-- The weight blocks of a device. -/
theorem wqRow_apply (d : Dev nD) (e : Fin 512) (k : Fin 256) :
    wqRow m d (ix3 0 e k) = m ((d : Thread nD τ).loc main_arg1) (ix2 e k) := by
  pointwise [wqRow, wqIn_eq, k0_pay11]
theorem woRow_apply (d : Dev nD) (k : Fin 256) (n : Fin 512) :
    woRow m d (ix3 0 k n) = m ((d : Thread nD τ).loc main_arg4) (ix2 k n) := by
  pointwise [woRow, woIn_eq, k0_pay12]

/-- The place in the whole keys (or values) of a row of a head: batch `2 c + b`, head `4 g + h`. -/
def kvIdx (c g : Dev nD) (h : Fin 4) (b : Fin 2) (j : Fin 128) (d : Fin 64) : S64x128x128x64.Idx :=
  ix4 (⟨2 * c.val + b.val, by have : c.val < 32 := c.isLt; omega⟩ : Fin 64) j (⟨4 * g.val + h.val, by have : g.val < 32 := g.isLt; omega⟩ : Fin 128) d

/-- Reading a row of a head through the copy's window. -/
theorem kSrc_emb (c g : Dev nD) (h : Fin 4) (b : Fin 2) (j : Fin 128) (d : Fin 64) :
    (kSrc c g h).view.emb (ix3 b j d) = kvIdx c g h b j d := by
  have e : Shape.reshapeEquiv squeezes_S2x128x1x64_S2x128x64.numel_eq (ix3 b j d) = ix4 b j 0 d := by pointwise
  have e' : (kSrc c g h).view.emb (ix3 b j d) = (Rect.unit (s := S64x128x128x64) ![2 * c.val, 0, 4 * g.val + h.val, 0] S2x128x1x64.size (inb_kSrc c g h)).emb (ix4 b j 0 d) := by
    rw [← e]; rfl
  rw [e']
  funext a
  refine Fin.ext ?_
  match a with
  | 0 => show 2 * c.val + 1 * b.val = 2 * c.val + b.val; omega
  | 1 => show 0 + 1 * j.val = j.val; omega
  | 2 => show 4 * g.val + h.val + 1 * 0 = 4 * g.val + h.val; omega
  | 3 => show 0 + 1 * d.val = d.val; omega

/-- How the program loads a row of a slot. -/
theorem load_row (b : Fin 2) (j : Fin 128) (d : Fin 64) :
    (Shape.reshapeEquiv squeezes_S1x2x128x64_S2x128x64.numel_eq).symm (ix4 0 b j d) = ix3 b j d := by
  rw [Equiv.symm_apply_eq]
  pointwise

/-- The keys and the values of a head, as the program loads them. -/
theorem kRow_apply (c g : Dev nD) (h : Fin 4) (b : Fin 2) (j : Fin 128) (d : Fin 64) :
    kRow m c g h (ix4 0 b j d) = m ((c : Thread nD τ).loc main_arg2) (kvIdx c g h b j d) := by
  unfold kRow kVal
  rw [load_row, ← kSrc_emb]
  rfl
theorem vRow_apply (c g : Dev nD) (h : Fin 4) (b : Fin 2) (j : Fin 128) (d : Fin 64) :
    vRow m c g h (ix4 0 b j d) = m ((c : Thread nD τ).loc main_arg3) (kvIdx c g h b j d) := by
  unfold vRow vVal
  rw [load_row, ← kSrc_emb]
  rfl

/-! ## A head's context -/

/-- The queries of a row: every product of the row of the activations with a column of the weights. -/
theorem q_apply (x : FVec Ideal S256x512 .bf16) (w : Vec Ideal S1x512x256 .bf16) (r k : Fin 256) :
    k0_pay3 x w (ix2 r k) = ∑ e : Fin 512, x (ix2 r e) * w (ix3 0 e k) := by
  pointwise [k0_pay3]

/-- The scores of a row against the 256 keys of a head, masked. -/
def rowScore (c g : Dev nD) (h : Fin 4) (r k : Fin 256) : EReal :=
  (∑ d : Fin 64, k0_pay3 (xv m c) (wqRow m g) (ix2 r (⟨64 * h.val + d.val, by omega⟩ : Fin 256))
      * kRow m c g h (ix4 0 (⟨k.val / 128, by omega⟩ : Fin 2) (⟨k.val % 128, by omega⟩ : Fin 128) d)) * Ideal.ofBits .f32 0x3E000000#32
    + bias (F := Ideal) (ix2 r k)

/-- What a trip stores for a head: the values weighted by the exponentials of the scores over their sum. -/
theorem col_apply (c : Dev nD) (t : ℕ) (h : Fin 4) (r : Fin 256) (d : Fin 64) :
    col m c t h (ix2 r d) = ∑ k : Fin 256, Ideal.div (Ideal.exp (rowScore m c (back c t) h r k)) (∑ k' : Fin 256, Ideal.exp (rowScore m c (back c t) h r k'))
      * vRow m c (back c t) h (ix4 0 (⟨k.val / 128, by omega⟩ : Fin 2) (⟨k.val % 128, by omega⟩ : Fin 128) d) := by
  unfold rowScore
  match h with
  | 0 =>
    pointwise [col, k0_pay4]
  | 1 =>
    pointwise [col, k0_pay5, k0_pay6]
  | 2 =>
    pointwise [col, k0_pay7, k0_pay8, k0_pay9]
  | 3 =>
    pointwise [col, k0_pay10, k0_pay1]

/-- The context of a trip, by its quarters. -/
theorem ctx_apply (c : Dev nD) (t : ℕ) (r k : Fin 256) :
    ctx m c t (ix2 r k) = col m c t (⟨k.val / 64, by omega⟩ : Fin 4) (ix2 r (⟨k.val % 64, by omega⟩ : Fin 64)) := by
  unfold ctx joinCols
  refine congrArg (col m c t _) (funext fun a => ?_)
  match a with
  | 0 => rfl
  | 1 => rfl

/-! ## The result -/

/-- A trip adds the product of its context with its block of the output weights. -/
theorem acc_succ (c : Dev nD) (t : ℕ) (b : Fin 2) (i : Fin 128) (n : Fin 512) :
    acc m c (t + 1) (ix3 b i n) = acc m c t (ix3 b i n)
      + ∑ k : Fin 256, ctx m c t (ix2 (⟨b.val * 128 + i.val, by omega⟩ : Fin 256) k) * woRow m (back c t) (ix3 0 k n) := by
  show k0_pay2 (ctx m c t) (woRow m (back c t)) (acc m c t) (ix3 b i n) = _
  generalize acc m c t = A
  generalize ctx m c t = C
  pointwise [k0_pay2]

/-- So after `T` trips the result holds the sum of `T` such products. -/
theorem acc_apply (c : Dev nD) (T : ℕ) (b : Fin 2) (i : Fin 128) (n : Fin 512) :
    acc m c T (ix3 b i n) = ∑ t ∈ Finset.range T,
      ∑ k : Fin 256, ctx m c t (ix2 (⟨b.val * 128 + i.val, by omega⟩ : Fin 256) k) * woRow m (back c t) (ix3 0 k n) := by
  induction T with
  | zero =>
    show k0_pay13 (F := Ideal) (ix3 b i n) = 0
    pointwise [k0_pay13]
  | succ T ih => rw [acc_succ, ih, Finset.sum_range_succ]

end Cert.Stream
-- ==== Proof.Math.lean ====
/-
  Facts about extended reals that the equation of kernel and reference rests on: which sums and products are real numbers,
  and that the weights of a softmax do not change when a real number is taken from every score.
-/
module

public import Idealize.ShloMosaic.PureOps.Ideal
public import Idealize.ShloMosaic.Lib.IdealHost

@[expose] public section

noncomputable section

namespace Cert.Stream

open Idealize.ShloMosaic

/-! ## Real numbers among the extended reals -/

/-- An extended real that is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.zero : IsReal 0 := ⟨0, EReal.coe_zero.symm⟩

/-- A finite sum of reals is real. -/
theorem IsReal.sum {ι : Type} (s : Finset ι) (f : ι → EReal) (h : ∀ k ∈ s, IsReal (f k)) : IsReal (∑ k ∈ s, f k) := by
  classical
  induction s using Finset.induction_on with
  | empty => rw [Finset.sum_empty]; exact IsReal.zero
  | insert a s ha ih =>
    rw [Finset.sum_insert ha]
    exact (h a (Finset.mem_insert_self a s)).add (ih fun k hk => h k (Finset.mem_insert_of_mem hk))

/-- What is above minus infinity and below infinity is real. -/
theorem isReal_of_ne {x : EReal} (hb : x ≠ ⊥) (ht : x ≠ ⊤) : IsReal x := ⟨x.toReal, (EReal.coe_toReal ht hb).symm⟩

/-- An extended real whose absolute value is below infinity is real. -/
theorem isReal_of_abs {x : EReal} (h : max x (-x) < ⊤) : IsReal x := by
  refine isReal_of_ne (fun e => ?_) (fun e => ?_)
  · rw [e, EReal.neg_bot] at h
    exact absurd h (by simp)
  · rw [e] at h
    exact absurd h (by simp)

/-- The sum of the coercions of reals is the coercion of their sum. -/
theorem sum_coe {ι : Type} (s : Finset ι) (g : ι → ℝ) : ∑ k ∈ s, ((g k : ℝ) : EReal) = ((∑ k ∈ s, g k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ## Scores -/

/-- A score is a real number or, where it is masked, minus infinity. -/
def IsScore (x : EReal) : Prop := x = ⊥ ∨ IsReal x

/-- The exponential of a score is a real number, zero or positive; taking `r` from the score multiplies it by `exp (-r)`. -/
theorem exp_score {x : EReal} (h : IsScore x) :
    ∃ g : ℝ, 0 ≤ g ∧ Ideal.exp x = (g : EReal) ∧ (∀ r : ℝ, Ideal.exp (x - (r : EReal)) = ((g * Real.exp (-r) : ℝ) : EReal)) ∧ (IsReal x → 0 < g) := by
  rcases h with rfl | ⟨a, rfl⟩
  · refine ⟨0, le_refl _, by rw [Ideal.exp_bot, EReal.coe_zero], fun r => ?_, fun ⟨a, ha⟩ => absurd ha.symm (EReal.coe_ne_bot a)⟩
    rw [EReal.bot_sub, Ideal.exp_bot, zero_mul, EReal.coe_zero]
  · refine ⟨Real.exp a, (Real.exp_pos a).le, Ideal.exp_coe a, fun r => ?_, fun _ => Real.exp_pos a⟩
    rw [← EReal.coe_sub, Ideal.exp_coe, sub_eq_add_neg, Real.exp_add]

/-- The exponentials of scores, one of them real, sum to a positive real. -/
theorem sum_exp_pos {ι : Type} [Fintype ι] (f : ι → EReal) (h : ∀ k, IsScore (f k)) (k₀ : ι) (h₀ : IsReal (f k₀)) :
    ∃ s : ℝ, 0 < s ∧ ∑ k, Ideal.exp (f k) = (s : EReal) ∧ ∀ r : ℝ, ∑ k, Ideal.exp (f k - (r : EReal)) = ((s * Real.exp (-r) : ℝ) : EReal) := by
  choose g hg0 hg hgr hgp using fun k => exp_score (h k)
  refine ⟨∑ k, g k, Finset.sum_pos' (fun k _ => hg0 k) ⟨k₀, Finset.mem_univ _, hgp k₀ h₀⟩, ?_, fun r => ?_⟩
  · rw [Finset.sum_congr rfl fun k _ => hg k, sum_coe]
  · rw [Finset.sum_congr rfl fun k _ => hgr k r, sum_coe, Finset.sum_mul]

/-- A weight of the softmax is the same with a real number taken from every score. -/
theorem softmax_shift {ι : Type} [Fintype ι] (f : ι → EReal) (h : ∀ k, IsScore (f k)) (k₀ : ι) (h₀ : IsReal (f k₀)) {M : EReal} (hM : IsReal M) (k : ι) :
    Ideal.div (Ideal.exp (f k - M)) (∑ k', Ideal.exp (f k' - M)) = Ideal.div (Ideal.exp (f k)) (∑ k', Ideal.exp (f k')) := by
  obtain ⟨r, rfl⟩ := hM
  obtain ⟨s, hs, hsum, hsumr⟩ := sum_exp_pos f h k₀ h₀
  obtain ⟨g, _, hg, hgr, _⟩ := exp_score (h k)
  have he := Real.exp_pos (-r)
  rw [hsum, hsumr r, hg, hgr r, Ideal.div_coe (mul_pos hs he).ne', Ideal.div_coe hs.ne', ← EReal.coe_mul, ← EReal.coe_mul]
  refine congrArg _ ?_
  field_simp

/-- The greatest of finitely many scores, one of them real, is real. -/
theorem fold_max_real {ι : Type} [Fintype ι] (f : ι → EReal) (h : ∀ k, IsScore (f k)) (k₀ : ι) (h₀ : IsReal (f k₀)) :
    IsReal (Finset.univ.fold max ⊥ f) := by
  refine isReal_of_ne (fun e => ?_) (fun e => ?_)
  · have : f k₀ ≤ Finset.univ.fold max ⊥ f := Finset.le_fold_max _ |>.mpr (Or.inr ⟨k₀, Finset.mem_univ _, le_refl _⟩)
    obtain ⟨a, ha⟩ := h₀
    rw [e, ha] at this
    exact absurd (le_bot_iff.mp this) (EReal.coe_ne_bot a)
  · have : Finset.univ.fold max ⊥ f < ⊤ := Finset.fold_max_lt _ |>.mpr ⟨bot_lt_top, fun k _ => by
      rcases h k with hk | ⟨a, hk⟩
      · rw [hk]; exact bot_lt_top
      · rw [hk]; exact EReal.coe_lt_top a⟩
    exact absurd e this.ne

/-- A weight of a masked key is zero, whatever its value is. -/
theorem weight_bot {ι : Type} [Fintype ι] (f : ι → EReal) (h : ∀ k, IsScore (f k)) (k₀ : ι) (h₀ : IsReal (f k₀)) (v : EReal) :
    Ideal.div (Ideal.exp ⊥) (∑ k', Ideal.exp (f k')) * v = 0 := by
  obtain ⟨s, hs, hsum, _⟩ := sum_exp_pos f h k₀ h₀
  rw [hsum, Ideal.div_coe hs.ne', Ideal.exp_bot, zero_mul, zero_mul]

/-! ## The literals -/

/-- The scale of the scores is real. -/
theorem scale_real : IsReal (Ideal.ofBits .f32 0x3E000000#32) := by
  refine ⟨1 / 8, ?_⟩
  simp [Ideal.ofBits, Ideal.ieee, -EReal.coe_mul]; norm_num

/-- The word of minus infinity. -/
theorem word_bot : Ideal.ofBits .f32 0xFF800000#32 = ⊥ := by simp [Ideal.ofBits, Ideal.ieee]

/-- The word of infinity. -/
theorem word_top : Ideal.ofBits .f32 0x7F800000#32 = ⊤ := by simp [Ideal.ofBits, Ideal.ieee]

end Cert.Stream
-- ==== Proof.Whole.lean ====
/-
  What kernel and reference compute, on the whole arrays: masked scores, softmax, context, result.
-/
module

public import proofs.«01_k».proof.Proof.Math
public import Idealize.ShloMosaic.Lib.Pointwise

@[expose] public section

noncomputable section

namespace Cert.Stream

open Idealize.ShloMosaic

variable (X : FVec Ideal ⟨3, ![64, 128, 512]⟩ .f32) (WQ : FVec Ideal ⟨2, ![512, 8192]⟩ .f32)
  (K V : FVec Ideal ⟨4, ![64, 128, 128, 64]⟩ .f32) (WO : FVec Ideal ⟨2, ![8192, 512]⟩ .f32)

/-- The score of query `i` and key `j` of head `h` in batch `b`: the scaled product of the projected query with the key. -/
def score (b : Fin 64) (h i j : Fin 128) : EReal :=
  (∑ d : Fin 64, (∑ e : Fin 512, X (ix3 b i e) * WQ (ix2 e (⟨h.val * 64 + d.val, by omega⟩ : Fin 8192))) * K (ix4 b j h d)) * Ideal.ofBits .f32 0x3E000000#32

/-- The same inside a block of 64, minus infinity outside. -/
def masked (b : Fin 64) (h i j : Fin 128) : EReal := if i.val / 64 = j.val / 64 then score X WQ K b h i j else ⊥

/-- The context: the values weighted by the softmax of the masked scores. -/
def context (b : Fin 64) (h i : Fin 128) (d : Fin 64) : EReal :=
  ∑ j : Fin 128, Ideal.div (Ideal.exp (masked X WQ K b h i j)) (∑ j' : Fin 128, Ideal.exp (masked X WQ K b h i j')) * V (ix4 b j h d)

/-- The result: the product of all heads' contexts with the output weights. -/
def whole (b : Fin 64) (i : Fin 128) (n : Fin 512) : EReal :=
  ∑ x : Fin 8192, context X WQ K V b (⟨x.val / 64, by omega⟩ : Fin 128) i (⟨x.val % 64, by omega⟩ : Fin 64) * WO (ix2 x n)

/-- Of finite activations, query weights and keys every score is real. -/
theorem score_real (hX : ∀ i, IsReal (X i)) (hWQ : ∀ i, IsReal (WQ i)) (hK : ∀ i, IsReal (K i)) (b : Fin 64) (h i j : Fin 128) :
    IsReal (score X WQ K b h i j) :=
  (IsReal.sum _ _ fun d _ => (IsReal.sum _ _ fun e _ => (hX _).mul (hWQ _)).mul (hK _)).mul scale_real

/-- So a masked score is a score, and that of a position with itself is real. -/
theorem masked_score (hX : ∀ i, IsReal (X i)) (hWQ : ∀ i, IsReal (WQ i)) (hK : ∀ i, IsReal (K i)) (b : Fin 64) (h i j : Fin 128) :
    IsScore (masked X WQ K b h i j) := by
  unfold masked
  by_cases e : i.val / 64 = j.val / 64
  · rw [if_pos e]; exact Or.inr (score_real X WQ K hX hWQ hK b h i j)
  · rw [if_neg e]; exact Or.inl rfl
theorem masked_self (hX : ∀ i, IsReal (X i)) (hWQ : ∀ i, IsReal (WQ i)) (hK : ∀ i, IsReal (K i)) (b : Fin 64) (h i : Fin 128) :
    IsReal (masked X WQ K b h i i) := by
  unfold masked
  rw [if_pos rfl]
  exact score_real X WQ K hX hWQ hK b h i i

end Cert.Stream
-- ==== Proof.Tie.lean ====
/-
  The kernel's result is block `c` of the whole result: the heads that its trips go through are all heads, and a softmax
  over two batches, one of them masked, is the softmax over the other.
-/
module

public import proofs.«01_k».proof.Proof.Read
public import proofs.«01_k».proof.Proof.Whole

@[expose] public section

noncomputable section

namespace Cert.Stream

open Cert.KernelIdeal Cert.KernelIdeal.Gen

open Idealize.ShloMosaic
open Idealize.ShloMosaic.TcCoe

set_option maxRecDepth 16384

/-! ## Two batches, one masked -/

/-- A sum over two batches of terms that vanish outside batch `p`. -/
theorem sum_batch (p : Fin 2) (G : Fin 256 → EReal) (hG : ∀ k : Fin 256, p.val ≠ k.val / 128 → G k = 0) :
    ∑ k, G k = ∑ j : Fin 128, G (⟨p.val * 128 + j.val, by omega⟩ : Fin 256) := by
  rw [Fin.sum_univ_tiles 2 128 rfl]
  refine Finset.sum_eq_single p (fun q _ hq => Finset.sum_eq_zero fun j _ => hG _ fun e => hq (Fin.ext ?_)) (fun h => absurd (Finset.mem_univ _) h)
  simp only at e
  omega

/-- The softmax over two batches with the scores outside batch `p` masked is the softmax over batch `p`. -/
theorem softmax_batch (p : Fin 2) (F : Fin 256 → EReal) (f : Fin 128 → EReal) (hf : ∀ j, IsScore (f j)) (j₀ : Fin 128) (h₀ : IsReal (f j₀))
    (hF : ∀ k : Fin 256, F k = if p.val = k.val / 128 then f (⟨k.val % 128, by omega⟩ : Fin 128) else ⊥) (v : Fin 256 → EReal) :
    ∑ k, Ideal.div (Ideal.exp (F k)) (∑ k', Ideal.exp (F k')) * v k
      = ∑ j : Fin 128, Ideal.div (Ideal.exp (f j)) (∑ j', Ideal.exp (f j')) * v (⟨p.val * 128 + j.val, by omega⟩ : Fin 256) := by
  have hin : ∀ j : Fin 128, F (⟨p.val * 128 + j.val, by omega⟩ : Fin 256) = f j := fun j => by
    rw [hF, if_pos (show p.val = (p.val * 128 + j.val) / 128 by omega)]
    exact congrArg f (Fin.ext (show (p.val * 128 + j.val) % 128 = j.val by omega))
  have hS : ∑ k', Ideal.exp (F k') = ∑ j', Ideal.exp (f j') := by
    rw [sum_batch p _ fun k hk => by rw [hF, if_neg hk, Ideal.exp_bot]]
    exact Finset.sum_congr rfl fun j _ => by rw [hin]
  rw [hS, sum_batch p _ fun k hk => by rw [hF, if_neg hk]; exact weight_bot f hf j₀ h₀ _]
  exact Finset.sum_congr rfl fun j _ => by rw [hin]

/-! ## The devices hold blocks of the whole arrays -/

variable (m : (ℓ : Loc nD τ sig) → Buf (Elt Ideal) ℓ)
variable (X : FVec Ideal ⟨3, ![64, 128, 512]⟩ .f32) (WQ : FVec Ideal ⟨2, ![512, 8192]⟩ .f32)
  (K V : FVec Ideal ⟨4, ![64, 128, 128, 64]⟩ .f32) (WO : FVec Ideal ⟨2, ![8192, 512]⟩ .f32)

/-- A row of device `c`'s two batches, among the 64. -/
def batchOf (c : Dev nD) (b : Fin 2) : Fin 64 := ⟨c.val * 2 + b.val, by have : c.val < 32 := c.isLt; omega⟩
/-- A column of device `g`'s block of query weights (a row of its output weights), among the 8192. -/
def colOf (g : Dev nD) (k : Fin 256) : Fin 8192 := ⟨g.val * 256 + k.val, by have : g.val < 32 := g.isLt; omega⟩
/-- A head of device `g`, among the 128. -/
def headOf (g : Dev nD) (h : Fin 4) : Fin 128 := ⟨g.val * 4 + h.val, by have : g.val < 32 := g.isLt; omega⟩

/-- Every device's arguments are its blocks of the whole arrays; keys and values it holds whole. -/
structure Blocks : Prop where
  x : ∀ (c : Dev nD) (b : Fin 2) (i : Fin 128) (e : Fin 512), m ((c : Thread nD τ).loc main_arg0) (ix3 b i e) = X (ix3 (batchOf c b) i e)
  wq : ∀ (g : Dev nD) (e : Fin 512) (k : Fin 256), m ((g : Thread nD τ).loc main_arg1) (ix2 e k) = WQ (ix2 e (colOf g k))
  k : ∀ (c : Dev nD) j, m ((c : Thread nD τ).loc main_arg2) j = K j
  v : ∀ (c : Dev nD) j, m ((c : Thread nD τ).loc main_arg3) j = V j
  wo : ∀ (g : Dev nD) (k : Fin 256) (n : Fin 512), m ((g : Thread nD τ).loc main_arg4) (ix2 k n) = WO (ix2 (colOf g k) n)

variable {m X WQ K V WO}

/-- The place of a head's row of keys, by batch and head. -/
theorem kvIdx_eq (c g : Dev nD) (h : Fin 4) (b : Fin 2) (j : Fin 128) (d : Fin 64) :
    kvIdx c g h b j d = ix4 (batchOf c b) j (headOf g h) d := by
  unfold kvIdx batchOf headOf
  have e1 : 2 * c.val = c.val * 2 := Nat.mul_comm _ _
  have e2 : 4 * g.val = g.val * 4 := Nat.mul_comm _ _
  simp only [e1, e2]

/-- A masked score of the kernel is that of the whole arrays inside the row's own batch, minus infinity in the other. -/
theorem rowScore_eq (B : Blocks m X WQ K V WO) (c g : Dev nD) (h : Fin 4) (r k : Fin 256) :
    rowScore m c g h r k = if r.val / 128 = k.val / 128
      then masked X WQ K (batchOf c (⟨r.val / 128, by omega⟩ : Fin 2)) (headOf g h) (⟨r.val % 128, by omega⟩ : Fin 128) (⟨k.val % 128, by omega⟩ : Fin 128)
      else ⊥ := by
  unfold rowScore
  rw [bias_apply]
  by_cases e : r.val / 64 = k.val / 64
  · have e1 : r.val / 128 = k.val / 128 := by omega
    have e2 : r.val % 128 / 64 = k.val % 128 / 64 := by omega
    rw [if_pos e, if_pos e1, add_zero]
    unfold masked score
    rw [if_pos e2]
    refine congrArg (· * _) (Finset.sum_congr rfl fun d _ => ?_)
    rw [kRow_apply, B.k, kvIdx_eq, q_apply]
    have e3 : (⟨k.val / 128, by omega⟩ : Fin 2) = ⟨r.val / 128, by omega⟩ := Fin.ext e1.symm
    rw [e3]
    refine congrArg (· * _) (Finset.sum_congr rfl fun e' _ => ?_)
    rw [xv_apply, wqRow_apply, B.x, B.wq]
    refine congrArg (fun q => _ * WQ (ix2 e' q)) (Fin.ext ?_)
    show g.val * 256 + (64 * h.val + d.val) = (g.val * 4 + h.val) * 64 + d.val
    omega
  · rw [if_neg e, EReal.add_bot]
    by_cases e1 : r.val / 128 = k.val / 128
    · have e2 : ¬ r.val % 128 / 64 = k.val % 128 / 64 := by omega
      rw [if_pos e1]
      unfold masked
      rw [if_neg e2]
    · rw [if_neg e1]

/-- A head's context in a trip is that of the whole arrays. -/
theorem col_eq (B : Blocks m X WQ K V WO) (hX : ∀ i, IsReal (X i)) (hWQ : ∀ i, IsReal (WQ i)) (hK : ∀ i, IsReal (K i))
    (c : Dev nD) (t : ℕ) (h : Fin 4) (r : Fin 256) (d : Fin 64) :
    col m c t h (ix2 r d) = context X WQ K V (batchOf c (⟨r.val / 128, by omega⟩ : Fin 2)) (headOf (back c t) h) (⟨r.val % 128, by omega⟩ : Fin 128) d := by
  rw [col_apply]
  refine (softmax_batch (⟨r.val / 128, by omega⟩ : Fin 2) _ _ (fun j => masked_score X WQ K hX hWQ hK _ (headOf (back c t) h) (⟨r.val % 128, by omega⟩ : Fin 128) j)
    _ (masked_self X WQ K hX hWQ hK _ _ _) (fun k => rowScore_eq B c (back c t) h r k)
    (fun k => vRow m c (back c t) h (ix4 0 (⟨k.val / 128, by omega⟩ : Fin 2) (⟨k.val % 128, by omega⟩ : Fin 128) d))).trans ?_
  unfold context
  refine Finset.sum_congr rfl fun j _ => congrArg₂ (· * ·) rfl ?_
  show vRow m c (back c t) h (ix4 0 _ _ d) = _
  rw [vRow_apply, B.v, kvIdx_eq]
  have e1 : (⟨(r.val / 128 * 128 + j.val) / 128, by omega⟩ : Fin 2) = ⟨r.val / 128, by omega⟩ := Fin.ext (show (r.val / 128 * 128 + j.val) / 128 = r.val / 128 by omega)
  have e2 : (⟨(r.val / 128 * 128 + j.val) % 128, by omega⟩ : Fin 128) = j := Fin.ext (show (r.val / 128 * 128 + j.val) % 128 = j.val by omega)
  rw [e1, e2]

/-- The devices that `c` hears of in 32 trips are all devices, each once. -/
theorem back_bijective (c : Dev nD) : Function.Bijective fun t : Fin 32 => back c t.val :=
  (Finite.injective_iff_bijective (f := fun t : Fin 32 => (back c t.val : Fin 32))).mp
    ((by decide +kernel : ∀ c : Fin 32, Function.Injective fun t : Fin 32 => (back c t.val : Fin 32)) c)

/-- What the heads of device `g` contribute to the whole result. -/
def part (X : FVec Ideal ⟨3, ![64, 128, 512]⟩ .f32) (WQ : FVec Ideal ⟨2, ![512, 8192]⟩ .f32) (K V : FVec Ideal ⟨4, ![64, 128, 128, 64]⟩ .f32)
    (WO : FVec Ideal ⟨2, ![8192, 512]⟩ .f32) (B : Fin 64) (i : Fin 128) (n : Fin 512) (g : Dev nD) : EReal :=
  ∑ k : Fin 256, context X WQ K V B (headOf g (⟨k.val / 64, by omega⟩ : Fin 4)) i (⟨k.val % 64, by omega⟩ : Fin 64) * WO (ix2 (colOf g k) n)

/-- The whole result is the sum of the devices' contributions. -/
theorem whole_parts (B : Fin 64) (i : Fin 128) (n : Fin 512) : whole X WQ K V WO B i n = ∑ g : Fin 32, part X WQ K V WO B i n g := by
  unfold whole
  rw [Fin.sum_univ_tiles 32 256 rfl]
  refine Finset.sum_congr rfl fun g _ => ?_
  unfold part
  refine Finset.sum_congr rfl fun k _ => congrArg₂ (· * ·) ?_ rfl
  have e1 : (⟨(g.val * 256 + k.val) / 64, by omega⟩ : Fin 128) = headOf g (⟨k.val / 64, by omega⟩ : Fin 4) :=
    Fin.ext (show (g.val * 256 + k.val) / 64 = g.val * 4 + k.val / 64 by omega)
  have e2 : (⟨(g.val * 256 + k.val) % 64, by omega⟩ : Fin 64) = ⟨k.val % 64, by omega⟩ := Fin.ext (show (g.val * 256 + k.val) % 64 = k.val % 64 by omega)
  exact congrArg₂ (fun a d => context X WQ K V B a i d) e1 e2

/-- A trip adds the contribution of the device whose weights it holds. -/
theorem trip_part (B : Blocks m X WQ K V WO) (hX : ∀ i, IsReal (X i)) (hWQ : ∀ i, IsReal (WQ i)) (hK : ∀ i, IsReal (K i))
    (c : Dev nD) (t : ℕ) (b : Fin 2) (i : Fin 128) (n : Fin 512) :
    ∑ k : Fin 256, ctx m c t (ix2 (⟨b.val * 128 + i.val, by omega⟩ : Fin 256) k) * woRow m (back c t) (ix3 0 k n)
      = part X WQ K V WO (batchOf c b) i n (back c t) := by
  unfold part
  refine Finset.sum_congr rfl fun k _ => ?_
  rw [woRow_apply, B.wo, ctx_apply, col_eq B hX hWQ hK]
  have e1 : (⟨(b.val * 128 + i.val) / 128, by omega⟩ : Fin 2) = b := Fin.ext (show (b.val * 128 + i.val) / 128 = b.val by omega)
  have e2 : (⟨(b.val * 128 + i.val) % 128, by omega⟩ : Fin 128) = i := Fin.ext (show (b.val * 128 + i.val) % 128 = i.val by omega)
  rw [e1, e2]

/-- After 32 trips the kernel's result on device `c` is block `c` of the whole result. -/
theorem acc_whole (B : Blocks m X WQ K V WO) (hX : ∀ i, IsReal (X i)) (hWQ : ∀ i, IsReal (WQ i)) (hK : ∀ i, IsReal (K i))
    (c : Dev nD) (b : Fin 2) (i : Fin 128) (n : Fin 512) :
    acc m c 32 (ix3 b i n) = whole X WQ K V WO (batchOf c b) i n := by
  rw [acc_apply, Finset.sum_range, whole_parts, Finset.sum_congr rfl fun t _ => trip_part B hX hWQ hK c t.val b i n]
  exact (back_bijective c).sum_comp (part X WQ K V WO (batchOf c b) i n)

end Cert.Stream
-- ==== Proof.RefRead.lean ====
/-
  The reference's result read at an index.
-/
module

public import proofs.«01_k».proof.Proof.Gen.ReferenceIdeal.Run
public import proofs.«01_k».proof.Proof.Whole
public import Idealize.ShloMosaic.Lib.Pointwise
public import Idealize.ShloMosaic.Lib.Tactic.CleanTypes
public import Idealize.ShloMosaic.Lib.Routing.OpsOrder

@[expose] public section

noncomputable section

namespace Cert.Stream

open Idealize.ShloMosaic
open Idealize.ShloMosaic.TcCoe
open Cert.ReferenceIdeal Cert.ReferenceIdeal.Gen

set_option maxRecDepth 16384

/-! ## The reference in stages -/

/-- The scores, minus infinity where the mask is off. -/
def refScore (M : IVec S128x128 1) (x : FVec Ideal S64x128x512 .f32) (wq : FVec Ideal S512x8192 .f32) (K : FVec Ideal S64x128x128x64 .f32) :
    FVec Ideal S64x128x128x128 .f32 :=
  select (broadcastInDim S64x128x128x128 ![0, 1, 2, 3] bcast_S1x1x128x128_S64x128x128x128_0_1_2_3 (broadcastInDim S1x1x128x128 ![2, 3] bcast_S128x128_S1x1x128x128_2_3 M))
    (mulf (Host.dotGeneral dot_S64x128x128x64_S64x128x128x64_S64x128x128x128_3_3_1_1_02_02 none
        (shapeCast S64x128x128x64 (Host.dotGeneral dot_S64x128x512_S512x8192_S64x128x8192_2_0_01_1_n_n none x wq : FVec Ideal S64x128x8192 .f32) shapeCasts_S64x128x8192_S64x128x128x64) K)
      (broadcastInDim S64x128x128x128 ![] bcast_S_S64x128x128x128 (constant S_ .f32 0x3E000000#32)))
    (broadcastInDim S64x128x128x128 ![] bcast_S_S64x128x128x128 (id (constant S_ .f32 0xFF800000#32)))

/-- The exponentials of scores less the greatest of their row. -/
def refExp (A : FVec Ideal S64x128x128x128 .f32) : FVec Ideal S64x128x128x128 .f32 :=
  Host.exp (subf A (broadcastInDim S64x128x128x128 ![0, 1, 2, 3] bcast_S64x128x128x1_S64x128x128x128_0_1_2_3
    (broadcastInDim S64x128x128x1 ![0, 1, 2] bcast_S64x128x128_S64x128x128x1_0_1_2
      (Host.reduce FloatOps.maximumf A (constant S_ .f32 0xFF800000#32) reducesTo_S64x128x128x128_S64x128x128_d3 h_S_))))

/-- Which rows keep a key. -/
def refKeep (M : IVec S128x128 1) : IVec S128 1 := Host.reduce IntOp.ori M (constantI S_ 1 0#1) reducesTo_S128x128_S128_d1 h_S_

/-- The weights: the exponentials over their row's sum, zero in a row that keeps no key. -/
def refSoft (R : IVec S128 1) (A : FVec Ideal S64x128x128x128 .f32) : FVec Ideal S64x128x128x128 .f32 :=
  select (broadcastInDim S64x128x128x128 ![0, 1, 2, 3] bcast_S1x1x128x1_S64x128x128x128_0_1_2_3 (broadcastInDim S1x1x128x1 ![2] bcast_S128_S1x1x128x1_2 R))
    (Host.divf A (broadcastInDim S64x128x128x128 ![0, 1, 2, 3] bcast_S64x128x128x1_S64x128x128x128_0_1_2_3
      (select (broadcastInDim S64x128x128x1 ![0, 1, 2, 3] bcast_S1x1x128x1_S64x128x128x1_0_1_2_3 (broadcastInDim S1x1x128x1 ![2] bcast_S128_S1x1x128x1_2 R))
        (broadcastInDim S64x128x128x1 ![0, 1, 2] bcast_S64x128x128_S64x128x128x1_0_1_2 (Host.reduceAdd A (constant S_ .f32 0x00000000#32) reducesTo_S64x128x128x128_S64x128x128_d3 h_S_))
        (broadcastInDim S64x128x128x1 ![] bcast_S_S64x128x128x1 (id (constant S_ .f32 0x3F800000#32))))))
    (broadcastInDim S64x128x128x128 ![] bcast_S_S64x128x128x128 (id (constant S_ .f32 0x00000000#32)))

/-- The result of the weights, the values and the output weights. -/
def refOut (W : FVec Ideal S64x128x128x128 .f32) (V : FVec Ideal S64x128x128x64 .f32) (wo : FVec Ideal S8192x512 .f32) : FVec Ideal S64x128x512 .f32 :=
  Host.dotGeneral dot_S64x128x8192_S8192x512_S64x128x512_2_0_01_1_n_n none
    (shapeCast S64x128x8192 (transpose S64x128x128x64 [0, 3, 1, 2]
      (Host.dotGeneral dot_S64x128x128x64_S64x128x128x128_S64x128x64x128_1_3_3_2_02_01 none V W : FVec Ideal S64x128x64x128 .f32) transposes_S64x128x64x128_S64x128x128x64_0_3_1_2)
      shapeCasts_S64x128x128x64_S64x128x8192) wo

/-! ## The mask -/

/-- The mask from the block numbers `Q` of the positions and their remainders by four. -/
def refMask (Q : IVec S128 32) (C : IVec S1x128 32) (D : IVec S128x1 32) : IVec S128x128 1 :=
  ori (cmpi .eq (broadcastInDim S128x128 ![0, 1] bcast_S128x1_S128x128_0_1 (broadcastInDim S128x1 ![0] bcast_S128_S128x1_0 Q))
      (broadcastInDim S128x128 ![0, 1] bcast_S1x128_S128x128_0_1 (broadcastInDim S1x128 ![1] bcast_S128_S1x128_1 Q)))
    (cmpi .eq (broadcastInDim S128x128 ![0, 1] bcast_S1x128_S128x128_0_1 C) (broadcastInDim S128x128 ![0, 1] bcast_S128x1_S128x128_0_1 D))

/-- With at most two blocks the remainders say the same as the block numbers: the mask is on inside a block. -/
theorem refMask_apply (Q : IVec S128 32) (C : IVec S1x128 32) (D : IVec S128x1 32)
    (hQ : ∀ i : Fin 128, Q (ix1 i) = BitVec.ofNat 32 (i.val / 64)) (hC : ∀ i : Fin 128, C (ix2 0 i) = BitVec.ofNat 32 (i.val / 64))
    (hD : ∀ i : Fin 128, D (ix2 i 0) = BitVec.ofNat 32 (i.val / 64)) (i j : Fin 128) :
    refMask Q C D (ix2 i j) = if i.val / 64 = j.val / 64 then 1#1 else 0#1 := by
  have h : ∀ a b : Fin 2, IntOp.ori (IntOp.cmpi CmpIPredicate.eq (BitVec.ofNat 32 a.val) (BitVec.ofNat 32 b.val))
      (IntOp.cmpi CmpIPredicate.eq (BitVec.ofNat 32 b.val) (BitVec.ofNat 32 a.val)) = if a.val = b.val then 1#1 else 0#1 := by decide
  pointwise [refMask]
  rw [hQ, hQ, hC, hD]
  exact h ⟨i.val / 64, by omega⟩ ⟨j.val / 64, by omega⟩

/-- Every row keeps a key. -/
theorem refKeep_apply (M : IVec S128x128 1) (hM : ∀ i j : Fin 128, M (ix2 i j) = if i.val / 64 = j.val / 64 then 1#1 else 0#1) (i : Fin 128) :
    refKeep M (ix1 i) = 1#1 := by
  pointwise [refKeep]
  exact (Routing.fold_ori _ _).mpr ⟨i, Finset.mem_univ _, by rw [hM, if_pos rfl]⟩

/-- The reference is these stages, of a mask that is on where the two positions lie in the same block of 64. -/
theorem ref_stages (m : (ℓ : Loc nD τ sig) → Buf (Elt Ideal) ℓ) (c : Dev nD) :
    ∃ M : IVec S128x128 1, (Cert.ReferenceIdeal.Value.res_out0 m c = refOut (refSoft (refKeep M)
        (refExp (refScore M (m ((c.tc : Thread nD τ).loc main_arg0)) (m ((c.tc : Thread nD τ).loc main_arg1)) (m ((c.tc : Thread nD τ).loc main_arg2)))))
        (m ((c.tc : Thread nD τ).loc main_arg3)) (m ((c.tc : Thread nD τ).loc main_arg4)))
      ∧ ∀ i j : Fin 128, M (ix2 i j) = if i.val / 64 = j.val / 64 then 1#1 else 0#1 := by
  refine ⟨refMask _ _ _, rfl, refMask_apply _ _ _ ?_ ?_ ?_⟩
  · decide +kernel
  · decide +kernel
  · decide +kernel

/-! ## The stages at an index -/

/-- A masked score. -/
theorem refScore_apply (M : IVec S128x128 1) (hM : ∀ i j : Fin 128, M (ix2 i j) = if i.val / 64 = j.val / 64 then 1#1 else 0#1)
    (x : FVec Ideal S64x128x512 .f32) (wq : FVec Ideal S512x8192 .f32) (K : FVec Ideal S64x128x128x64 .f32) (b : Fin 64) (h i j : Fin 128) :
    refScore M x wq K (ix4 b h i j) = masked x wq K b h i j := by
  pointwise [refScore, id_eq]
  unfold masked score
  rw [hM, word_bot]
  by_cases e : i.val / 64 = j.val / 64
  · rw [if_pos e, if_pos e]; rfl
  · rw [if_neg e, if_neg e]; rfl

/-- The exponential of a score less the greatest of its row. -/
theorem refExp_apply (A : FVec Ideal S64x128x128x128 .f32) (b : Fin 64) (h i j : Fin 128) :
    refExp A (ix4 b h i j) = Ideal.exp (A (ix4 b h i j) - Finset.univ.fold max ⊥ fun k : Fin 128 => A (ix4 b h i k)) := by
  pointwise [refExp]
  rw [word_bot]

/-- A weight. -/
theorem refSoft_apply (R : IVec S128 1) (hR : ∀ i, R (ix1 i) = 1#1) (A : FVec Ideal S64x128x128x128 .f32) (b : Fin 64) (h i j : Fin 128) :
    refSoft R A (ix4 b h i j) = Ideal.div (A (ix4 b h i j)) (∑ k : Fin 128, A (ix4 b h i k)) := by
  pointwise [refSoft, hR, id_eq]

/-- The result. -/
theorem refOut_apply (W : FVec Ideal S64x128x128x128 .f32) (V : FVec Ideal S64x128x128x64 .f32) (wo : FVec Ideal S8192x512 .f32)
    (b : Fin 64) (i : Fin 128) (n : Fin 512) :
    refOut W V wo (ix3 b i n) = ∑ x : Fin 8192, (∑ j : Fin 128, V (ix4 b j (⟨x.val / 64, by omega⟩ : Fin 128) (⟨x.val % 64, by omega⟩ : Fin 64))
      * W (ix4 b (⟨x.val / 64, by omega⟩ : Fin 128) i j)) * wo (ix2 x n) := by
  pointwise [refOut]

/-- The stages of finite activations, query weights and keys, at an index. -/
theorem stages_apply (M : IVec S128x128 1) (hM : ∀ i j : Fin 128, M (ix2 i j) = if i.val / 64 = j.val / 64 then 1#1 else 0#1)
    (X : FVec Ideal S64x128x512 .f32) (WQ : FVec Ideal S512x8192 .f32) (K V : FVec Ideal S64x128x128x64 .f32) (WO : FVec Ideal S8192x512 .f32)
    (hX : ∀ i, IsReal (X i)) (hWQ : ∀ i, IsReal (WQ i)) (hK : ∀ i, IsReal (K i)) (b : Fin 64) (i : Fin 128) (n : Fin 512) :
    refOut (refSoft (refKeep M) (refExp (refScore M X WQ K))) V WO (ix3 b i n) = whole X WQ K V WO b i n := by
  rw [refOut_apply]
  unfold whole context
  refine Finset.sum_congr rfl fun x _ => congrArg (· * _) (Finset.sum_congr rfl fun j _ => ?_)
  rw [mul_comm, refSoft_apply _ (refKeep_apply M hM)]
  simp only [refExp_apply, refScore_apply M hM]
  exact congrArg (· * _) (softmax_shift _ (fun k => masked_score _ _ _ hX hWQ hK b _ i k) i (masked_self _ _ _ hX hWQ hK b _ i)
    (fold_max_real _ (fun k => masked_score _ _ _ hX hWQ hK b _ i k) i (masked_self _ _ _ hX hWQ hK b _ i)) j)

/-- The reference's result of finite activations, query weights and keys. -/
theorem ref_apply (m : (ℓ : Loc nD τ sig) → Buf (Elt Ideal) ℓ) (c : Dev nD) (hX : ∀ i, IsReal (m ((c.tc : Thread nD τ).loc main_arg0) i))
    (hWQ : ∀ i, IsReal (m ((c.tc : Thread nD τ).loc main_arg1) i)) (hK : ∀ i, IsReal (m ((c.tc : Thread nD τ).loc main_arg2) i))
    (b : Fin 64) (i : Fin 128) (n : Fin 512) :
    Cert.ReferenceIdeal.Value.res_out0 m c (ix3 b i n) = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b i n := by
  obtain ⟨M, hout, hM⟩ := ref_stages m c
  exact (congrFun hout _).trans (stages_apply M hM _ _ _ _ _ hX hWQ hK b i n)

end Cert.Stream
-- ==== Proof.Value.lean ====
/-
  Kernel and reference compute the same array over the extended reals: the precondition read as "the entries are real",
  the blocks of the claim read at an index, and the equation of the two runs.
-/
module

public import proofs.«01_k».proof.Defs
public import proofs.«01_k».proof.Proof.Gen.Pre_finite_KernelIdeal
public import proofs.«01_k».proof.Proof.Same
public import proofs.«01_k».proof.Proof.Tie
public import proofs.«01_k».proof.Proof.RefRead

@[expose] public section

noncomputable section

namespace Cert.Stream

open Idealize.ShloMosaic
open Idealize.ShloMosaic.TcCoe

set_option maxRecDepth 16384

/-! ## The precondition -/

/-- The comparison "below infinity" of an absolute value, when it holds, says that the entry is real. -/
theorem real_of_below {x : EReal} (h : Ideal.cmp CmpFPredicate.olt (max x (-x)) (Ideal.ofBits .f32 0x7F800000#32) = 1#1) : IsReal x := by
  refine isReal_of_abs ?_
  rw [word_top] at h
  by_contra hc
  simp [Ideal.cmp, hc] at h

/-- Under the precondition the activations, query weights and keys of every device are real. -/
theorem finite_real (m : (ℓ : Loc KernelIdeal.nD KernelIdeal.τ KernelIdeal.sig) → Buf (Elt Ideal) ℓ) (hpre : Cert.Pre_KernelIdeal_finite_KernelIdeal m)
    (c : Dev KernelIdeal.nD) :
    (∀ i, IsReal (m ((c.tc : Thread KernelIdeal.nD KernelIdeal.τ).loc KernelIdeal.main_arg0) i))
      ∧ (∀ i, IsReal (m ((c.tc : Thread KernelIdeal.nD KernelIdeal.τ).loc KernelIdeal.main_arg1) i))
      ∧ ∀ i, IsReal (m ((c.tc : Thread KernelIdeal.nD KernelIdeal.τ).loc KernelIdeal.main_arg2) i) := by
  obtain ⟨h0, h1, h2⟩ := hpre c
  exact ⟨fun i => real_of_below (congrFun h0 i), fun i => real_of_below (congrFun h1 i), fun i => real_of_below (congrFun h2 i)⟩

/-! ## The blocks -/

/-- What holds at all coordinates holds at all indices of three axes, and of two. -/
theorem all_ix3 {a b c : ℕ} {P : (⟨3, ![a, b, c]⟩ : Shape).Idx → Prop} (h : ∀ (x : Fin a) (y : Fin b) (z : Fin c), P (ix3 x y z)) (i) : P i :=
  ix3_eta i ▸ h _ _ _
theorem all_ix2 {a b : ℕ} {P : (⟨2, ![a, b]⟩ : Shape).Idx → Prop} (h : ∀ (x : Fin a) (y : Fin b), P (ix2 x y)) (i) : P i :=
  ix2_eta i ▸ h _ _

section
variable (m : (ℓ : Loc KernelIdeal.nD KernelIdeal.τ KernelIdeal.sig) → Buf (Elt Ideal) ℓ)
  (X : FVec Ideal ⟨3, ![64, 128, 512]⟩ .f32) (WQ : FVec Ideal ⟨2, ![512, 8192]⟩ .f32)
  (K V : FVec Ideal ⟨4, ![64, 128, 128, 64]⟩ .f32) (WO : FVec Ideal ⟨2, ![8192, 512]⟩ .f32)

/-- Where an entry of a block of the activations (and of the result) lies in the whole array. -/
theorem block_rows {α : Type} (c : Fin 32) (v : (⟨3, ![64, 128, 512]⟩ : Shape).Idx → α) (b : Fin 2) (i : Fin 128) (e : Fin 512) :
    Layout.block ⟨3, ![2, 128, 512]⟩ ⟨3, ![64, 128, 512]⟩ 0 32 c v (by decide) (ix3 b i e) = v (ix3 (batchOf c b) i e) := by
  refine congrArg v (funext fun a => Fin.ext ?_)
  match a with
  | 0 => rfl
  | 1 => rfl
  | 2 => rfl

/-- Where an entry of a block of the query weights lies. -/
theorem block_cols {α : Type} (c : Fin 32) (v : (⟨2, ![512, 8192]⟩ : Shape).Idx → α) (e : Fin 512) (k : Fin 256) :
    Layout.block ⟨2, ![512, 256]⟩ ⟨2, ![512, 8192]⟩ 1 32 c v (by decide) (ix2 e k) = v (ix2 e (colOf c k)) := by
  refine congrArg v (funext fun a => Fin.ext ?_)
  match a with
  | 0 => rfl
  | 1 => rfl

/-- Where an entry of a block of the output weights lies. -/
theorem block_out {α : Type} (c : Fin 32) (v : (⟨2, ![8192, 512]⟩ : Shape).Idx → α) (k : Fin 256) (n : Fin 512) :
    Layout.block ⟨2, ![256, 512]⟩ ⟨2, ![8192, 512]⟩ 0 32 c v (by decide) (ix2 k n) = v (ix2 (colOf c k) n) := by
  refine congrArg v (funext fun a => Fin.ext ?_)
  match a with
  | 0 => rfl
  | 1 => rfl

/-- The claim's layout, read at an index. -/
theorem blocks_of_layout
    (h : ∀ c : Dev KernelIdeal.nD,
      m ((c.tc : Thread KernelIdeal.nD KernelIdeal.τ).loc KernelIdeal.main_arg0) = Layout.block ⟨3, ![2, 128, 512]⟩ ⟨3, ![64, 128, 512]⟩ 0 32 c X
      ∧ m ((c.tc : Thread KernelIdeal.nD KernelIdeal.τ).loc KernelIdeal.main_arg1) = Layout.block ⟨2, ![512, 256]⟩ ⟨2, ![512, 8192]⟩ 1 32 c WQ
      ∧ m ((c.tc : Thread KernelIdeal.nD KernelIdeal.τ).loc KernelIdeal.main_arg2) = K
      ∧ m ((c.tc : Thread KernelIdeal.nD KernelIdeal.τ).loc KernelIdeal.main_arg3) = V
      ∧ m ((c.tc : Thread KernelIdeal.nD KernelIdeal.τ).loc KernelIdeal.main_arg4) = Layout.block ⟨2, ![256, 512]⟩ ⟨2, ![8192, 512]⟩ 0 32 c WO) :
    Blocks m X WQ K V WO where
  x c b i e := (congrFun (h c).1 _).trans (block_rows c X b i e)
  wq g e k := (congrFun (h g).2.1 _).trans (block_cols g WQ e k)
  k c j := congrFun (h c).2.2.1 j
  v c j := congrFun (h c).2.2.2.1 j
  wo g k n := (congrFun (h g).2.2.2.2 _).trans (block_out g WO k n)

variable {m X WQ K V WO}

/-- Under the precondition the whole activations, query weights and keys are real: each entry lies in a device's block. -/
theorem whole_real (B : Blocks m X WQ K V WO) (hpre : Cert.Pre_KernelIdeal_finite_KernelIdeal m) :
    (∀ i, IsReal (X i)) ∧ (∀ i, IsReal (WQ i)) ∧ ∀ i, IsReal (K i) := by
  refine ⟨all_ix3 fun b i e => ?_, all_ix2 fun e k => ?_, fun i => ?_⟩
  · have hb : batchOf (⟨b.val / 2, by omega⟩ : Fin 32) (⟨b.val % 2, by omega⟩ : Fin 2) = b := Fin.ext (show b.val / 2 * 2 + b.val % 2 = b.val by omega)
    have := (finite_real m hpre (⟨b.val / 2, by omega⟩ : Fin 32)).1 (ix3 (⟨b.val % 2, by omega⟩ : Fin 2) i e)
    rw [B.x, hb] at this
    exact this
  · have hk : colOf (⟨k.val / 256, by omega⟩ : Fin 32) (⟨k.val % 256, by omega⟩ : Fin 256) = k := Fin.ext (show k.val / 256 * 256 + k.val % 256 = k.val by omega)
    have := (finite_real m hpre (⟨k.val / 256, by omega⟩ : Fin 32)).2.1 (ix2 e (⟨k.val % 256, by omega⟩ : Fin 256))
    rw [B.wq, hk] at this
    exact this
  · have := (finite_real m hpre (0 : Fin 32)).2.2 i
    rw [B.k] at this
    exact this
end

/-! ## The equation -/

/-- Over the extended reals every device of the kernel ends with its block of the reference's result. -/
theorem algebraic : Cert.algebraic_KernelIdeal_ReferenceIdeal_pre_finite_KernelIdeal := by
  intro m g m' g' hpre h
  have B := blocks_of_layout m _ _ _ _ _ h
  obtain ⟨hX, hWQ, hK⟩ := whole_real B hpre
  refine ⟨Cert.ReferenceIdeal.Value.res_out0 m' 0, ?_, ?_⟩
  · refine (θ_run _ _ _).mono (fun r hr c => ⟨(hr.1 c).1.trans ?_, (hr.1 c).2⟩) (run_named (F := Ideal) m g)
    refine funext (all_ix3 fun b i n => ?_)
    exact (acc_whole B hX hWQ hK c b i n).trans ((ref_apply m' 0 hX hWQ hK (batchOf c b) i n).symm.trans (block_rows c _ b i n).symm)
  · exact (θ_run _ _ _).mono (fun r hr => hr 0) (Cert.ReferenceIdeal.Value.run (F := Ideal) m' g')

end Cert.Stream
-- ==== Proof.lean ====
/-
  The certificate of the streamed-weights attention kernel: the frames of the program as written, of the program with its
  mask named and of the reference; the naming itself; and the equality of the results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Same
public import proofs.«01_k».proof.Proof.Value

@[expose] public section

noncomputable section

namespace Cert.Proof

open Idealize.ShloMosaic Idealize.SL.Sem
open Idealize.ShloMosaic.TcCoe

/-- The kernel's frame of finite arguments is its frame of any. -/
theorem frame_ideal_finite : Cert.quiescent_KernelIdeal_pre_finite_KernelIdeal := fun m g _ => Cert.Stream.frame_ideal m g trivial

/-- The reference runs, leaves its arguments unchanged, and every semaphore (it has none) at zero. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Its frame of finite arguments likewise. -/
theorem frame_reference_finite : Cert.quiescent_ReferenceIdeal_pre_finite_ReferenceIdeal := fun m g _ => frame_reference m g trivial

/-- The kernel's one rewrite: the mask's bits are named, and the name stands for minus infinity. -/
theorem preserves : Cert.preserves_Kernel_KernelIdeal :=
  IdealRules.named_const.statement _ "mask" .f32 _ _ rfl

/-- All claims of the certificate. -/
theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    Cert.Stream.frame_kernel, Cert.Stream.frame_ideal, frame_ideal_finite, frame_reference, frame_reference_finite, preserves, Cert.Stream.algebraic⟩

end Cert.Proof

end
